-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Attn_AttnIdeal : Prop :=
  IdealRules.named_const.Statement Cert.AttnIdeal.κ "inv_sqrt_d" .f32 0x3DB504F3#32 (((Real.sqrt 128)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v4_1)) (v2 : (c : Dev Cert.AttnIdeal.nD) → Buf (Elt Ideal) ((c.tc : Thread Cert.AttnIdeal.nD Cert.AttnIdeal.τ).loc Cert.AttnIdeal.main_v4_2)) (v3 : (c : Dev Cert.AttnIdeal.nD) → Buf (Elt Ideal) ((c.tc : Thread Cert.AttnIdeal.nD Cert.AttnIdeal.τ).loc Cert.AttnIdeal.main_v4_3)) (v4 : (c : Dev Cert.AttnIdeal.nD) → Buf (Elt Ideal) ((c.tc : Thread Cert.AttnIdeal.nD Cert.AttnIdeal.τ).loc Cert.AttnIdeal.main_v4_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v4_1) = v1 c
          ∧ r.2.mem ((c.tc : Thread Cert.AttnIdeal.nD Cert.AttnIdeal.τ).loc Cert.AttnIdeal.main_v4_2) = v2 c
          ∧ r.2.mem ((c.tc : Thread Cert.AttnIdeal.nD Cert.AttnIdeal.τ).loc Cert.AttnIdeal.main_v4_3) = v3 c
          ∧ r.2.mem ((c.tc : Thread Cert.AttnIdeal.nD Cert.AttnIdeal.τ).loc Cert.AttnIdeal.main_v4_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v44) = v0 c
          ∧ r.2.mem ((c.tc : Thread Cert.AttnRefIdeal.nD Cert.AttnRefIdeal.τ).loc Cert.AttnRefIdeal.main_v45) = v1 c
          ∧ r.2.mem ((c.tc : Thread Cert.AttnRefIdeal.nD Cert.AttnRefIdeal.τ).loc Cert.AttnRefIdeal.main_v47) = v2 c
          ∧ r.2.mem ((c.tc : Thread Cert.AttnRefIdeal.nD Cert.AttnRefIdeal.τ).loc Cert.AttnRefIdeal.main_v49) = v3 c
          ∧ r.2.mem ((c.tc : Thread Cert.AttnRefIdeal.nD Cert.AttnRefIdeal.τ).loc Cert.AttnRefIdeal.main_v52) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v147) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Out_OutIdeal : Prop :=
  IdealRules.named_const.Statement Cert.OutIdeal.κ "mask" .f32 0xF149F2CA#32 ⊥

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)) (v2 : (c : Dev Cert.OutIdeal.nD) → Buf (Elt Ideal) ((c.tc : Thread Cert.OutIdeal.nD Cert.OutIdeal.τ).loc Cert.OutIdeal.main_v6_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_v6_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v32) = v0 c
          ∧ r.2.mem ((c.tc : Thread Cert.OutRefIdeal.nD Cert.OutRefIdeal.τ).loc Cert.OutRefIdeal.main_v34) = v1 c
          ∧ r.2.mem ((c.tc : Thread Cert.OutRefIdeal.nD Cert.OutRefIdeal.τ).loc Cert.OutRefIdeal.main_v35) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def Claim : Prop :=
  ∃ (hKv : Cert.Kv.Facts) (hKvIdeal : Cert.KvIdeal.Facts) (hKvRefIdeal : Cert.KvRefIdeal.Facts) (hAttn : Cert.Attn.Facts) (hAttnIdeal : Cert.AttnIdeal.Facts) (hAttnRefIdeal : Cert.AttnRefIdeal.Facts) (hPool : Cert.Pool.Facts) (hPoolIdeal : Cert.PoolIdeal.Facts) (hPoolRefIdeal : Cert.PoolRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts),
    quiescent_Kv (hKv := hKv)
    ∧ quiescent_KvIdeal (hKvIdeal := hKvIdeal)
    ∧ quiescent_KvRefIdeal (hKvRefIdeal := hKvRefIdeal)
    ∧ quiescent_Attn (hAttn := hAttn)
    ∧ quiescent_AttnIdeal (hAttnIdeal := hAttnIdeal)
    ∧ quiescent_AttnRefIdeal (hAttnRefIdeal := hAttnRefIdeal)
    ∧ quiescent_Pool (hPool := hPool)
    ∧ quiescent_PoolIdeal (hPoolIdeal := hPoolIdeal)
    ∧ quiescent_PoolRefIdeal (hPoolRefIdeal := hPoolRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ preserves_Kv_KvIdeal
    ∧ algebraic_KvIdeal_KvRefIdeal (hKvIdeal := hKvIdeal) (hKvRefIdeal := hKvRefIdeal)
    ∧ preserves_Attn_AttnIdeal
    ∧ algebraic_AttnIdeal_AttnRefIdeal (hAttnIdeal := hAttnIdeal) (hAttnRefIdeal := hAttnRefIdeal)
    ∧ preserves_Pool_PoolIdeal
    ∧ algebraic_PoolIdeal_PoolRefIdeal (hPoolIdeal := hPoolIdeal) (hPoolRefIdeal := hPoolRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
-- ==== Kv.lean ====
abbrev S8x256x2048 : Shape := ⟨3, ![8, 256, 2048]⟩
abbrev S1x2048 : Shape := ⟨2, ![1, 2048]⟩
abbrev S1x2048x1024 : Shape := ⟨3, ![1, 2048, 1024]⟩
abbrev S2048x2048 : Shape := ⟨2, ![2048, 2048]⟩
abbrev S2048 : Shape := ⟨1, ![2048]⟩
abbrev S2048x1024 : Shape := ⟨2, ![2048, 1024]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x1024, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S1x2048, .f32⟩
  | .hbm, ⟨7, _⟩ => ⟨S2048x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x512, .bf16⟩
  | .local _ .vmem, ⟨6, _⟩ => ⟨S1024x512, .bf16⟩
  | .local _ .vmem, ⟨7, _⟩ => ⟨S2048x512, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S8x256x2048 : Shape := ⟨3, ![8, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S2048x1024 : Shape := ⟨2, ![2048, 1024]⟩
abbrev S8x256x1024 : Shape := ⟨3, ![8, 256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S2048x1024, .f32⟩
  | .hbm, ⟨21, _⟩ => ⟨S8x256x1024, .f32⟩
  | .hbm, ⟨22, _⟩ => ⟨S2048x1024, .f32⟩
  | .hbm, ⟨23, _⟩ => ⟨S2048x1024, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Attn.lean ====
abbrev S8x2048x2048 : Shape := ⟨3, ![8, 2048, 2048]⟩
abbrev S1x2048 : Shape := ⟨2, ![1, 2048]⟩
abbrev S1x2048x8192 : Shape := ⟨3, ![1, 2048, 8192]⟩
abbrev S8x256x1024 : Shape := ⟨3, ![8, 256, 1024]⟩
abbrev S16384x2048 : Shape := ⟨2, ![16384, 2048]⟩
abbrev S2048 : Shape := ⟨1, ![2048]⟩
abbrev S2048x8192 : Shape := ⟨2, ![2048, 8192]⟩
abbrev S16384x1024 : Shape := ⟨2, ![16384, 1024]⟩
abbrev S16384x512 : Shape := ⟨2, ![16384, 512]⟩
abbrev S2048x6144 : Shape := ⟨2, ![2048, 6144]⟩
abbrev S512x2048 : Shape := ⟨2, ![512, 2048]⟩
abbrev S2048x2048 : Shape := ⟨2, ![2048, 2048]⟩
abbrev S1x256x1024 : Shape := ⟨3, ![1, 256, 1024]⟩
abbrev S2048x256 : Shape := ⟨2, ![2048, 256]⟩
abbrev S512x1024 : Shape := ⟨2, ![512, 1024]⟩
abbrev S512x512 : Shape := ⟨2, ![512, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 13
  | .vmem => 19
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x8192, .f32⟩
  | .hbm, ⟨3, _⟩ => ⟨S8x256x1024, .bf16⟩
  | .hbm, ⟨4, _⟩ => ⟨S16384x2048, .f32⟩
  | .hbm, ⟨5, _⟩ => ⟨S2048, .f32⟩
  | .hbm, ⟨6, _⟩ => ⟨S2048x8192, .f32⟩
  | .hbm, ⟨7, _⟩ => ⟨S1x2048, .f32⟩
  | .hbm, ⟨8, _⟩ => ⟨S16384x2048, .bf16⟩
  | .hbm, ⟨9, _⟩ => ⟨S16384x1024, .f32⟩
  | .hbm, ⟨10, _⟩ => ⟨S16384x512, .bf16⟩
  | .hbm, ⟨11, _⟩ => ⟨S16384x512, .bf16⟩
  | .hbm, ⟨12, _⟩ => ⟨S2048x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .f32⟩
  | .local _ .vmem, ⟨4, _⟩ => ⟨S1x256x1024, .bf16⟩
  | .local _ .vmem, ⟨5, _⟩ => ⟨S1x256x1024, .bf16⟩
  | .local _ .vmem, ⟨6, _⟩ => ⟨S2048x256, .f32⟩
  | .local _ .vmem, ⟨7, _⟩ => ⟨S2048x256, .f32⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S2048x256, .bf16⟩
  | .local _ .vmem, ⟨17, _⟩ => ⟨S2048x256, .bf16⟩
  | .local _ .vmem, ⟨18, _⟩ => ⟨S2048x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c23_i32 : BitVec 32 := 23#32
  let v0 : BitVec 32 := Scalar.minsi arg0 c23_i32
  let c8_i32 : BitVec 32 := 8#32
  let v1 : BitVec 32 := Scalar.addi c8_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![c0_i32.toNat, v0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnIdeal.lean ====
variable {F : FTy → Type} [FloatOps F] [Named F]
def κ : String → Option EReal := fun
  | "inv_sqrt_d" => some (((Real.sqrt 128)⁻¹ : ℝ) : EReal)
  | _ => none
-- ==== AttnRefIdeal.lean ====
abbrev S8x2048x2048 : Shape := ⟨3, ![8, 2048, 2048]⟩
abbrev S1x2048 : Shape := ⟨2, ![1, 2048]⟩
abbrev S1x2048x8192 : Shape := ⟨3, ![1, 2048, 8192]⟩
abbrev S8x256x1024 : Shape := ⟨3, ![8, 256, 1024]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x8192 : Shape := ⟨2, ![2048, 8192]⟩
abbrev S8x2048x8192 : Shape := ⟨3, ![8, 2048, 8192]⟩
abbrev S8x2048x1024 : Shape := ⟨3, ![8, 2048, 1024]⟩
abbrev S8x2048x512 : Shape := ⟨3, ![8, 2048, 512]⟩
abbrev S8x256x512 : Shape := ⟨3, ![8, 256, 512]⟩
abbrev S8x256x4x128 : Shape := ⟨4, ![8, 256, 4, 128]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x2048 : Shape := ⟨2, ![16384, 2048]⟩
abbrev S16384x1024 : Shape := ⟨2, ![16384, 1024]⟩
abbrev S16384x512 : Shape := ⟨2, ![16384, 512]⟩
abbrev S2048x6144 : Shape := ⟨2, ![2048, 6144]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x8192, .f32⟩
  | .hbm, ⟨3, _⟩ => ⟨S8x256x1024, .bf16⟩
  | .hbm, ⟨4, _⟩ => ⟨S2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S2048x8192, .f32⟩
  | .hbm, ⟨22, _⟩ => ⟨S8x2048x8192, .f32⟩
  | .hbm, ⟨23, _⟩ => ⟨S8x2048x1024, .f32⟩
  | .hbm, ⟨24, _⟩ => ⟨S8x2048x512, .f32⟩
  | .hbm, ⟨25, _⟩ => ⟨S8x2048x512, .f32⟩
  | .hbm, ⟨26, _⟩ => ⟨S8x256x1024, .f32⟩
  | .hbm, ⟨27, _⟩ => ⟨S8x256x512, .f32⟩
  | .hbm, ⟨28, _⟩ => ⟨S8x256x4x128, .f32⟩
  | .hbm, ⟨29, _⟩ => ⟨S8x256x512, .f32⟩
  | .hbm, ⟨30, _⟩ => ⟨S8x256x4x128, .f32⟩
  | .hbm, ⟨31, _⟩ => ⟨S8x2048x4x128, .f32⟩
  | .hbm, ⟨32, _⟩ => ⟨S8x4x2048x256, .f32⟩
  | .hbm, ⟨33, _⟩ => ⟨S_, .f32⟩
  | .hbm, ⟨34, _⟩ => ⟨S_, .f32⟩
  | .hbm, ⟨35, _⟩ => ⟨S8x4x2048x256, .f32⟩
  | .hbm, ⟨36, _⟩ => ⟨S8x4x2048x256, .f32⟩
  | .hbm, ⟨37, _⟩ => ⟨S_, .f32⟩
  | .hbm, ⟨38, _⟩ => ⟨S8x4x2048, .f32⟩
  | .hbm, ⟨39, _⟩ => ⟨S_, .f32⟩
  | .hbm, ⟨40, _⟩ => ⟨S8x4x2048, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x4x2048x256, .f32⟩
  | .hbm, ⟨46, _⟩ => ⟨S_, .f32⟩
  | .hbm, ⟨47, _⟩ => ⟨S8x4x2048, .f32⟩
  | .hbm, ⟨48, _⟩ => ⟨S8x4x2048x1, .f32⟩
  | .hbm, ⟨49, _⟩ => ⟨S8x4x2048x256, .f32⟩
  | .hbm, ⟨50, _⟩ => ⟨S8x4x2048x256, .f32⟩
  | .hbm, ⟨51, _⟩ => ⟨S8x4x128x2048, .f32⟩
  | .hbm, ⟨52, _⟩ => ⟨S8x2048x4x128, .f32⟩
  | .hbm, ⟨53, _⟩ => ⟨S8x2048x512, .f32⟩
  | .hbm, ⟨54, _⟩ => ⟨S16384x2048, .f32⟩
  | .hbm, ⟨55, _⟩ => ⟨S16384x2048, .bf16⟩
  | .hbm, ⟨56, _⟩ => ⟨S16384x1024, .f32⟩
  | .hbm, ⟨57, _⟩ => ⟨S16384x512, .f32⟩
  | .hbm, ⟨58, _⟩ => ⟨S16384x512, .bf16⟩
  | .hbm, ⟨59, _⟩ => ⟨S16384x512, .f32⟩
  | .hbm, ⟨60, _⟩ => ⟨S16384x512, .bf16⟩
  | .hbm, ⟨61, _⟩ => ⟨S2048x8192, .f32⟩
  | .hbm, ⟨62, _⟩ => ⟨S2048x6144, .f32⟩
  | .hbm, ⟨63, _⟩ => ⟨S2048x6144, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Pool.lean ====
abbrev S8x2048x1024 : Shape := ⟨3, ![8, 2048, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S1x2048x1024 : Shape := ⟨3, ![1, 2048, 1024]⟩
abbrev S2112x256 : Shape := ⟨2, ![2112, 256]⟩
abbrev S32x256 : Shape := ⟨2, ![32, 256]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩
abbrev S1x256 : Shape := ⟨2, ![1, 256]⟩
abbrev S256x1 : Shape := ⟨2, ![256, 1]⟩
abbrev S48x256 : Shape := ⟨2, ![48, 256]⟩
abbrev S16x256 : Shape := ⟨2, ![16, 256]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S1024, .f32⟩
  | .hbm, ⟨5, _⟩ => ⟨S1x1024, .f32⟩
  | .hbm, ⟨6, _⟩ => ⟨S8x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S4x256x256, .f32⟩
  | .local _ .vmem, ⟨3, _⟩ => ⟨S1x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S2112x256, .f32⟩
  | .local _ .vmem, ⟨7, _⟩ => ⟨S2112x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S8x2048x1024 : Shape := ⟨3, ![8, 2048, 1024]⟩
abbrev S1x4x256x256 : Shape := ⟨4, ![1, 4, 256, 256]⟩
abbrev S1x1024 : Shape := ⟨2, ![1, 1024]⟩
abbrev S8x2048x4x256 : Shape := ⟨4, ![8, 2048, 4, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S8x2048x1x256 : Shape := ⟨4, ![8, 2048, 1, 256]⟩
abbrev S8x2048x256 : Shape := ⟨3, ![8, 2048, 256]⟩
abbrev S8x256x2048 : Shape := ⟨3, ![8, 256, 2048]⟩
abbrev S1x2048x1 : Shape := ⟨3, ![1, 2048, 1]⟩
abbrev S1x1x256x256 : Shape := ⟨4, ![1, 1, 256, 256]⟩
abbrev S256x256 : Shape := ⟨2, ![256, 256]⟩
abbrev S1024 : Shape := ⟨1, ![1024]⟩
abbrev S1x1x1024 : Shape := ⟨3, ![1, 1, 1024]⟩

abbrev nBuf : Space → Nat
  | .hbm => 219
  | .vmem => 0
  | .smem => 0
  | _ => 0

abbrev hbmTy0_0 (i : Nat) : BufTy := match i % 128 with
  | 0 => ⟨S8x2048x1024, .f32⟩
  | 1 => ⟨S1x4x256x256, .f32⟩
  | 2 => ⟨S1x1024, .f32⟩
  | 3 => ⟨S8x2048x4x256, .f32⟩
  | 4 => ⟨S2048, .i32⟩
  | 5 => ⟨S_, .i32⟩
  | 6 => ⟨S2048, .i32⟩
  | 7 => ⟨S2048, .i32⟩
  | 8 => ⟨S_, .i32⟩
  | 9 => ⟨S_, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S_, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048x1, .i32⟩
  | 31 => ⟨S1x2048, .i32⟩
  | 32 => ⟨S2048x2048, .i32⟩
  | 33 => ⟨S2048x2048, .i32⟩
  | 34 => ⟨S2048x2048, .i1⟩
  | 35 => ⟨S1x2048, .i32⟩
  | 36 => ⟨S2048x1, .i32⟩
  | 37 => ⟨S2048x2048, .i32⟩
  | 38 => ⟨S2048x2048, .i32⟩
  | 39 => ⟨S2048x2048, .i1⟩
  | 40 => ⟨S2048x2048, .i1⟩
  | 41 => ⟨S2048x2048, .f32⟩
  | 42 => ⟨S8x2048x1x256, .f32⟩
  | 43 => ⟨S8x2048x256, .f32⟩
  | 44 => ⟨S8x256x2048, .f32⟩
  | 45 => ⟨S8x2048x256, .f32⟩
  | 46 => ⟨S2048, .i32⟩
  | 47 => ⟨S2048, .f32⟩
  | 48 => ⟨S1x2048x1, .f32⟩
  | 49 => ⟨S8x2048x256, .f32⟩
  | 50 => ⟨S8x2048x256, .f32⟩
  | 51 => ⟨S8x2048x1x256, .f32⟩
  | 52 => ⟨S8x2048x256, .f32⟩
  | 53 => ⟨S8x2048x256, .f32⟩
  | 54 => ⟨S1x1x256x256, .f32⟩
  | 55 => ⟨S256x256, .f32⟩
  | 56 => ⟨S8x2048x256, .f32⟩
  | 57 => ⟨S_, .i32⟩
  | 58 => ⟨S2048, .i32⟩
  | 59 => ⟨S2048, .i32⟩
  | 60 => ⟨S_, .i32⟩
  | 61 => ⟨S_, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S_, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048x1, .i32⟩
  | 83 => ⟨S1x2048, .i32⟩
  | 84 => ⟨S2048x2048, .i32⟩
  | 85 => ⟨S2048x2048, .i32⟩
  | 86 => ⟨S2048x2048, .i1⟩
  | 87 => ⟨S1x2048, .i32⟩
  | 88 => ⟨S2048x1, .i32⟩
  | 89 => ⟨S2048x2048, .i32⟩
  | 90 => ⟨S2048x2048, .i32⟩
  | 91 => ⟨S2048x2048, .i1⟩
  | 92 => ⟨S2048x2048, .i1⟩
  | 93 => ⟨S2048x2048, .f32⟩
  | 94 => ⟨S8x2048x1x256, .f32⟩
  | 95 => ⟨S8x2048x256, .f32⟩
  | 96 => ⟨S8x256x2048, .f32⟩
  | 97 => ⟨S8x2048x256, .f32⟩
  | 98 => ⟨S2048, .i32⟩
  | 99 => ⟨S2048, .f32⟩
  | 100 => ⟨S1x2048x1, .f32⟩
  | 101 => ⟨S8x2048x256, .f32⟩
  | 102 => ⟨S8x2048x256, .f32⟩
  | 103 => ⟨S8x2048x1x256, .f32⟩
  | 104 => ⟨S8x2048x256, .f32⟩
  | 105 => ⟨S8x2048x256, .f32⟩
  | 106 => ⟨S1x1x256x256, .f32⟩
  | 107 => ⟨S256x256, .f32⟩
  | 108 => ⟨S8x2048x256, .f32⟩
  | 109 => ⟨S_, .i32⟩
  | 110 => ⟨S2048, .i32⟩
  | 111 => ⟨S2048, .i32⟩
  | 112 => ⟨S_, .i32⟩
  | 113 => ⟨S_, .i32⟩
  | 114 => ⟨S_, .i32⟩
  | 115 => ⟨S2048, .i32⟩
  | 116 => ⟨S2048, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S_, .i32⟩
  | 127 => ⟨S_, .i32⟩
  | _ => ⟨S8x2048x1024, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S2048, .i32⟩
  | 5 => ⟨S2048, .i32⟩
  | 6 => ⟨S2048x1, .i32⟩
  | 7 => ⟨S1x2048, .i32⟩
  | 8 => ⟨S2048x2048, .i32⟩
  | 9 => ⟨S2048x2048, .i32⟩
  | 10 => ⟨S2048x2048, .i1⟩
  | 11 => ⟨S1x2048, .i32⟩
  | 12 => ⟨S2048x1, .i32⟩
  | 13 => ⟨S2048x2048, .i32⟩
  | 14 => ⟨S2048x2048, .i32⟩
  | 15 => ⟨S2048x2048, .i1⟩
  | 16 => ⟨S2048x2048, .i1⟩
  | 17 => ⟨S2048x2048, .f32⟩
  | 18 => ⟨S8x2048x1x256, .f32⟩
  | 19 => ⟨S8x2048x256, .f32⟩
  | 20 => ⟨S8x256x2048, .f32⟩
  | 21 => ⟨S8x2048x256, .f32⟩
  | 22 => ⟨S2048, .i32⟩
  | 23 => ⟨S2048, .f32⟩
  | 24 => ⟨S1x2048x1, .f32⟩
  | 25 => ⟨S8x2048x256, .f32⟩
  | 26 => ⟨S8x2048x256, .f32⟩
  | 27 => ⟨S8x2048x1x256, .f32⟩
  | 28 => ⟨S8x2048x256, .f32⟩
  | 29 => ⟨S8x2048x256, .f32⟩
  | 30 => ⟨S1x1x256x256, .f32⟩
  | 31 => ⟨S256x256, .f32⟩
  | 32 => ⟨S8x2048x256, .f32⟩
  | 33 => ⟨S_, .i32⟩
  | 34 => ⟨S2048, .i32⟩
  | 35 => ⟨S2048, .i32⟩
  | 36 => ⟨S_, .i32⟩
  | 37 => ⟨S_, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S_, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i32⟩
  | 58 => ⟨S2048x1, .i32⟩
  | 59 => ⟨S1x2048, .i32⟩
  | 60 => ⟨S2048x2048, .i32⟩
  | 61 => ⟨S2048x2048, .i32⟩
  | 62 => ⟨S2048x2048, .i1⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S2048x2048, .i1⟩
  | 69 => ⟨S2048x2048, .f32⟩
  | 70 => ⟨S8x2048x1x256, .f32⟩
  | 71 => ⟨S8x2048x256, .f32⟩
  | 72 => ⟨S8x256x2048, .f32⟩
  | 73 => ⟨S8x2048x256, .f32⟩
  | 74 => ⟨S2048, .i32⟩
  | 75 => ⟨S2048, .f32⟩
  | 76 => ⟨S1x2048x1, .f32⟩
  | 77 => ⟨S8x2048x256, .f32⟩
  | 78 => ⟨S8x2048x256, .f32⟩
  | 79 => ⟨S8x2048x1x256, .f32⟩
  | 80 => ⟨S8x2048x256, .f32⟩
  | 81 => ⟨S8x2048x256, .f32⟩
  | 82 => ⟨S1x1x256x256, .f32⟩
  | 83 => ⟨S256x256, .f32⟩
  | 84 => ⟨S8x2048x256, .f32⟩
  | 85 => ⟨S8x2048x1024, .f32⟩
  | 86 => ⟨S1024, .f32⟩
  | 87 => ⟨S1x1x1024, .f32⟩
  | 88 => ⟨S8x2048x1024, .f32⟩
  | 89 => ⟨S8x2048x1024, .f32⟩
  | 90 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_c_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_c_12 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_c_14 : Ref sig .tc := ⟨.hbm, 112, rfl⟩
abbrev main_c_15 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v74 : Ref sig .tc := ⟨.hbm, 119, rfl⟩
abbrev main_c_16 : Ref sig .tc := ⟨.hbm, 120, rfl⟩
abbrev main_v75 : Ref sig .tc := ⟨.hbm, 121, rfl⟩
abbrev main_v76 : Ref sig .tc := ⟨.hbm, 122, rfl⟩
abbrev main_c_17 : Ref sig .tc := ⟨.hbm, 123, rfl⟩
abbrev main_v77 : Ref sig .tc := ⟨.hbm, 124, rfl⟩
abbrev main_v78 : Ref sig .tc := ⟨.hbm, 125, rfl⟩
abbrev main_c_18 : Ref sig .tc := ⟨.hbm, 126, rfl⟩
abbrev main_c_19 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_20 : Ref sig .tc := ⟨.hbm, 161, rfl⟩
abbrev main_v107 : Ref sig .tc := ⟨.hbm, 162, rfl⟩
abbrev main_v108 : Ref sig .tc := ⟨.hbm, 163, rfl⟩
abbrev main_c_21 : Ref sig .tc := ⟨.hbm, 164, rfl⟩
abbrev main_c_22 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_v109 : Ref sig .tc := ⟨.hbm, 171, rfl⟩
abbrev main_c_23 : Ref sig .tc := ⟨.hbm, 172, rfl⟩
abbrev main_v110 : Ref sig .tc := ⟨.hbm, 173, rfl⟩
abbrev main_v111 : Ref sig .tc := ⟨.hbm, 174, rfl⟩
abbrev main_c_24 : Ref sig .tc := ⟨.hbm, 175, rfl⟩
abbrev main_v112 : Ref sig .tc := ⟨.hbm, 176, rfl⟩
abbrev main_v113 : Ref sig .tc := ⟨.hbm, 177, rfl⟩
abbrev main_c_25 : Ref sig .tc := ⟨.hbm, 178, rfl⟩
abbrev main_c_26 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩

abbrev nD : Nat := 1
abbrev τ : Topo := Topo.v7x

variable {F : FTy → Type} [FloatOps F]
-- ==== Up.lean ====
abbrev S16x2048x2048 : Shape := ⟨3, ![16, 2048, 2048]⟩
abbrev S1x16x2048x2048 : Shape := ⟨4, ![1, 16, 2048, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x2048, .f32⟩
  | .hbm, ⟨2, _⟩ => ⟨S1x16x2048x2048, .f32⟩
  | .hbm, ⟨3, _⟩ => ⟨S16x2048x2048, .f32⟩
  | .hbm, ⟨4, _⟩ => ⟨S16x2048x2048, .f32⟩
  | .hbm, ⟨5, _⟩ => ⟨S16x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .bf16⟩
  | .local _ .vmem, ⟨7, _⟩ => ⟨S1x2048x512, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16x2048x2048 : Shape := ⟨3, ![16, 2048, 2048]⟩
abbrev S1x16x2048x2048 : Shape := ⟨4, ![1, 16, 2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x2048, .f32⟩
  | .hbm, ⟨2, _⟩ => ⟨S1x16x2048x2048, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S16x2048x2048 : Shape := ⟨3, ![16, 2048, 2048]⟩
abbrev S1x16x2048x2048 : Shape := ⟨4, ![1, 16, 2048, 2048]⟩
abbrev S16x2048x1 : Shape := ⟨3, ![16, 2048, 1]⟩
abbrev S1x2048x2048 : Shape := ⟨3, ![1, 2048, 2048]⟩
abbrev S1x2048x1024 : Shape := ⟨3, ![1, 2048, 1024]⟩
abbrev S1x2048x1 : Shape := ⟨3, ![1, 2048, 1]⟩
abbrev S2048x1024 : Shape := ⟨2, ![2048, 1024]⟩
abbrev S1x512x2048 : Shape := ⟨3, ![1, 512, 2048]⟩
abbrev S512x2048 : Shape := ⟨2, ![512, 2048]⟩
abbrev S512x1024 : Shape := ⟨2, ![512, 1024]⟩
abbrev S1x512x1 : Shape := ⟨3, ![1, 512, 1]⟩
abbrev S512x1 : Shape := ⟨2, ![512, 1]⟩
abbrev S1x512x1024 : Shape := ⟨3, ![1, 512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x2048, .f32⟩
  | .hbm, ⟨2, _⟩ => ⟨S16x2048x1, .f32⟩
  | .hbm, ⟨3, _⟩ => ⟨S16x2048x2048, .f32⟩
  | .hbm, ⟨4, _⟩ => ⟨S16x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1024, .bf16⟩
  | .local _ .vmem, ⟨7, _⟩ => ⟨S1x2048x1024, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16x2048x2048 : Shape := ⟨3, ![16, 2048, 2048]⟩
abbrev S1x16x2048x2048 : Shape := ⟨4, ![1, 16, 2048, 2048]⟩
abbrev S16x2048x1 : Shape := ⟨3, ![16, 2048, 1]⟩

abbrev nBuf : Space → Nat
  | .hbm => 9
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S1x16x2048x2048, .f32⟩
  | .hbm, ⟨2, _⟩ => ⟨S16x2048x1, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x2048 : Shape := ⟨2, ![16384, 2048]⟩
abbrev S1x1024x2048 : Shape := ⟨3, ![1, 1024, 2048]⟩
abbrev S1x512x2048 : Shape := ⟨3, ![1, 512, 2048]⟩
abbrev S2048x6144 : Shape := ⟨2, ![2048, 6144]⟩
abbrev S1024x2048 : Shape := ⟨2, ![1024, 2048]⟩
abbrev S512x2048 : Shape := ⟨2, ![512, 2048]⟩
abbrev S1024x1024 : Shape := ⟨2, ![1024, 1024]⟩
abbrev S1024x512 : Shape := ⟨2, ![1024, 512]⟩
abbrev S512x512 : Shape := ⟨2, ![512, 512]⟩
abbrev S2048x512 : Shape := ⟨2, ![2048, 512]⟩
abbrev S512x1024 : Shape := ⟨2, ![512, 1024]⟩

abbrev nBuf : Space → Nat
  | .hbm => 12
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S1x1024x2048, .f32⟩
  | .hbm, ⟨5, _⟩ => ⟨S1x512x2048, .f32⟩
  | .hbm, ⟨6, _⟩ => ⟨S1x512x2048, .f32⟩
  | .hbm, ⟨7, _⟩ => ⟨S2048x6144, .bf16⟩
  | .hbm, ⟨8, _⟩ => ⟨S1024x2048, .f32⟩
  | .hbm, ⟨9, _⟩ => ⟨S512x2048, .f32⟩
  | .hbm, ⟨10, _⟩ => ⟨S512x2048, .f32⟩
  | .hbm, ⟨11, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S512x512, .bf16⟩
  | .local _ .vmem, ⟨24, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S16384x1024 : Shape := ⟨2, ![16384, 1024]⟩
abbrev S16384x512 : Shape := ⟨2, ![16384, 512]⟩
abbrev S16384x2048 : Shape := ⟨2, ![16384, 2048]⟩
abbrev S1x1024x2048 : Shape := ⟨3, ![1, 1024, 2048]⟩
abbrev S1x512x2048 : Shape := ⟨3, ![1, 512, 2048]⟩
abbrev S2048x6144 : Shape := ⟨2, ![2048, 6144]⟩
abbrev S1024x2048 : Shape := ⟨2, ![1024, 2048]⟩
abbrev S512x2048 : Shape := ⟨2, ![512, 2048]⟩
abbrev S16384x6144 : Shape := ⟨2, ![16384, 6144]⟩
abbrev S_ : Shape := ⟨0, ![]⟩
abbrev S16384x3x2048 : Shape := ⟨3, ![16384, 3, 2048]⟩
abbrev S16384x1x2048 : Shape := ⟨3, ![16384, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x2048, .bf16⟩
  | .hbm, ⟨4, _⟩ => ⟨S1x1024x2048, .f32⟩
  | .hbm, ⟨5, _⟩ => ⟨S1x512x2048, .f32⟩
  | .hbm, ⟨6, _⟩ => ⟨S1x512x2048, .f32⟩
  | .hbm, ⟨7, _⟩ => ⟨S2048x6144, .bf16⟩
  | .hbm, ⟨8, _⟩ => ⟨S16384x1024, .f32⟩
  | .hbm, ⟨9, _⟩ => ⟨S1024x2048, .f32⟩
  | .hbm, ⟨10, _⟩ => ⟨S16384x2048, .f32⟩
  | .hbm, ⟨11, _⟩ => ⟨S16384x512, .f32⟩
  | .hbm, ⟨12, _⟩ => ⟨S512x2048, .f32⟩
  | .hbm, ⟨13, _⟩ => ⟨S16384x2048, .f32⟩
  | .hbm, ⟨14, _⟩ => ⟨S16384x512, .f32⟩
  | .hbm, ⟨15, _⟩ => ⟨S512x2048, .f32⟩
  | .hbm, ⟨16, _⟩ => ⟨S16384x2048, .f32⟩
  | .hbm, ⟨17, _⟩ => ⟨S16384x2048, .f32⟩
  | .hbm, ⟨18, _⟩ => ⟨S2048x6144, .f32⟩
  | .hbm, ⟨19, _⟩ => ⟨S16384x6144, .f32⟩
  | .hbm, ⟨20, _⟩ => ⟨S16384x6144, .f32⟩
  | .hbm, ⟨21, _⟩ => ⟨S16384x6144, .f32⟩
  | .hbm, ⟨22, _⟩ => ⟨S_, .f32⟩
  | .hbm, ⟨23, _⟩ => ⟨S16384x6144, .f32⟩
  | .hbm, ⟨24, _⟩ => ⟨S16384x6144, .f32⟩
  | .hbm, ⟨25, _⟩ => ⟨S_, .f32⟩
  | .hbm, ⟨26, _⟩ => ⟨S16384x6144, .f32⟩
  | .hbm, ⟨27, _⟩ => ⟨S16384x6144, .f32⟩
  | .hbm, ⟨28, _⟩ => ⟨S16384x3x2048, .f32⟩
  | .hbm, ⟨29, _⟩ => ⟨S16384x1x2048, .f32⟩
  | .hbm, ⟨30, _⟩ => ⟨S16384x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x1x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Out.lean ====
abbrev S16384x2048 : Shape := ⟨2, ![16384, 2048]⟩
abbrev S1x2048x2048 : Shape := ⟨3, ![1, 2048, 2048]⟩
abbrev S8x2048x2048 : Shape := ⟨3, ![8, 2048, 2048]⟩
abbrev S1x2048 : Shape := ⟨2, ![1, 2048]⟩
abbrev S1x2048x16 : Shape := ⟨3, ![1, 2048, 16]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S8x16x2048 : Shape := ⟨3, ![8, 16, 2048]⟩
abbrev S512x2048 : Shape := ⟨2, ![512, 2048]⟩
abbrev S1x16x512 : Shape := ⟨3, ![1, 16, 512]⟩
abbrev S256x2048 : Shape := ⟨2, ![256, 2048]⟩
abbrev S256x512 : Shape := ⟨2, ![256, 512]⟩
abbrev S2048x512 : Shape := ⟨2, ![2048, 512]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 16
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S8x2048x2048, .f32⟩
  | .hbm, ⟨3, _⟩ => ⟨S1x2048, .f32⟩
  | .hbm, ⟨4, _⟩ => ⟨S1x2048x16, .f32⟩
  | .hbm, ⟨5, _⟩ => ⟨S2048x2048, .f32⟩
  | .hbm, ⟨6, _⟩ => ⟨S16384x2048, .f32⟩
  | .hbm, ⟨7, _⟩ => ⟨S2048, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S1x2048, .f32⟩
  | .hbm, ⟨13, _⟩ => ⟨S16384x2048, .f32⟩
  | .hbm, ⟨14, _⟩ => ⟨S16384x2048, .bf16⟩
  | .hbm, ⟨15, _⟩ => ⟨S8x16x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x16x512, .f32⟩
  | .local _ .vmem, ⟨12, _⟩ => ⟨S1x16x512, .f32⟩
  | .local _ .vmem, ⟨13, _⟩ => ⟨S2048x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutIdeal.lean ====
variable {F : FTy → Type} [FloatOps F] [Named F]
def κ : String → Option EReal := fun
  | "mask" => some ⊥
  | _ => none
-- ==== OutRefIdeal.lean ====
abbrev S16384x2048 : Shape := ⟨2, ![16384, 2048]⟩
abbrev S1x2048x2048 : Shape := ⟨3, ![1, 2048, 2048]⟩
abbrev S8x2048x2048 : Shape := ⟨3, ![8, 2048, 2048]⟩
abbrev S1x2048 : Shape := ⟨2, ![1, 2048]⟩
abbrev S1x2048x16 : Shape := ⟨3, ![1, 2048, 16]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x16 : Shape := ⟨2, ![2048, 16]⟩
abbrev S8x2048x16 : Shape := ⟨3, ![8, 2048, 16]⟩
abbrev S8x16x2048 : Shape := ⟨3, ![8, 16, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S8x2048x2048, .f32⟩
  | .hbm, ⟨3, _⟩ => ⟨S1x2048, .f32⟩
  | .hbm, ⟨4, _⟩ => ⟨S1x2048x16, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S8x2048x2048, .f32⟩
  | .hbm, ⟨9, _⟩ => ⟨S8x2048x2048, .f32⟩
  | .hbm, ⟨10, _⟩ => ⟨S2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S2048x16, .f32⟩
  | .hbm, ⟨28, _⟩ => ⟨S8x2048x16, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x16, .f32⟩
  | .hbm, ⟨36, _⟩ => ⟨S8x2048x16, .f32⟩
  | .hbm, ⟨37, _⟩ => ⟨S8x2048x16, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x16, .f32⟩
  | .hbm, ⟨42, _⟩ => ⟨S8x2048x16, .f32⟩
  | .hbm, ⟨43, _⟩ => ⟨S16384x2048, .f32⟩
  | .hbm, ⟨44, _⟩ => ⟨S16384x2048, .f32⟩
  | .hbm, ⟨45, _⟩ => ⟨S16384x2048, .bf16⟩
  | .hbm, ⟨46, _⟩ => ⟨S8x16x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.AttnPure.lean ====
module

public import proofs.«01_k».proof.Defs
public import proofs.«01_k».proof.Proof.Gen.AttnIdeal.Value
public import proofs.«01_k».proof.Proof.Gen.AttnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The mixing input call: the pure facts about its payloads and the reference's terms -/

namespace Cert.AttnRefIdeal.Mixing

open Cert.AttnRefIdeal Cert.AttnRefIdeal.Gen

/-- The reference's normalised input, as its operations compose it. -/
def hn (a0 : FVec Ideal S8x2048x2048 .f32) (a1 : FVec Ideal S1x2048 .f32) : FVec Ideal S8x2048x2048 .f32 :=
  mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant (F := Ideal) S_ .f32 0x00000000#32) reducesTo_S8x2048x2048_S8x2048_d2 h_S_)) (broadcastInDim S8x2048x1 ![] bcast_S_S8x2048x1 (constant (F := Ideal) S_ .f32 0x45000000#32))) (broadcastInDim S8x2048x1 ![] bcast_S_S8x2048x1 (constant (F := Ideal) S_ .f32 0x358637BD#32)))))) (broadcastInDim S8x2048x2048 ![0, 1, 2] bcast_S1x1x2048_S8x2048x2048_0_1_2 (broadcastInDim S1x1x2048 ![2] bcast_S2048_S1x1x2048_2 (shapeCast _ a1 shapeCasts_S1x2048_S2048)))

/-- The reference's projection of it to all mixing channels and gates. -/
def z (a0 : FVec Ideal S8x2048x2048 .f32) (a1 : FVec Ideal S1x2048 .f32) (a2 : FVec Ideal S1x2048x8192 .f32) : FVec Ideal S8x2048x8192 .f32 :=
  Host.dotGeneral (F := Ideal) (φ₁ := .f32) (φ₂ := .f32) dot_S8x2048x2048_S2048x8192_S8x2048x8192_2_0_01_1_n_n none (hn a0 a1) (shapeCast _ a2 shapeCasts_S1x2048x8192_S2048x8192)

/-- The reference's scaled attention scores. -/
def sc (a0 : FVec Ideal S8x2048x2048 .f32) (a1 : FVec Ideal S1x2048 .f32) (a2 : FVec Ideal S1x2048x8192 .f32) (a3 : FVec Ideal S8x256x1024 .bf16) : FVec Ideal S8x4x2048x256 .f32 :=
  Host.divf (Host.dotGeneral (F := Ideal) (φ₁ := .f32) (φ₂ := .f32) dot_S8x2048x4x128_S8x256x4x128_S8x4x2048x256_3_3_1_1_02_02 none (shapeCast _ (extractStridedSlice S8x2048x512 ![0, 0, 1536] (z a0 a1 a2) slices_S8x2048x8192_S8x2048x512_0_0_1536) shapeCasts_S8x2048x512_S8x2048x4x128) (shapeCast _ (extractStridedSlice S8x256x512 ![0, 0, 0] (extf .f32 a3 bitsLt_bf16_f32) slices_S8x256x1024_S8x256x512_0_0_0) shapeCasts_S8x256x512_S8x256x4x128)) (broadcastInDim S8x4x2048x256 ![] bcast_S_S8x4x2048x256 (Host.sqrt (constant (F := Ideal) S_ .f32 0x43000000#32)))

/-- The exponentials of the scores minus their row maximum. -/
def ex (a0 : FVec Ideal S8x2048x2048 .f32) (a1 : FVec Ideal S1x2048 .f32) (a2 : FVec Ideal S1x2048x8192 .f32) (a3 : FVec Ideal S8x256x1024 .bf16) : FVec Ideal S8x4x2048x256 .f32 :=
  Host.exp (subf (sc a0 a1 a2 a3) (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant (F := Ideal) S_ .f32 0xFF800000#32)) (Host.reduce FloatOps.maximumf (sc a0 a1 a2 a3) (constant (F := Ideal) S_ .f32 0xFF800000#32) reducesTo_S8x4x2048x256_S8x4x2048_d3 h_S_)))))

/-- The reference's attention from its exponentials and the memory's projections. -/
def outOf (E : FVec Ideal S8x4x2048x256 .f32) (a3 : FVec Ideal S8x256x1024 .bf16) : FVec Ideal S16384x512 .bf16 :=
  truncf .bf16 (shapeCast _ (shapeCast _ (transpose S8x2048x4x128 [0, 3, 1, 2] (Host.dotGeneral (F := Ideal) (φ₁ := .f32) (φ₂ := .f32) dot_S8x256x4x128_S8x4x2048x256_S8x4x128x2048_1_3_3_2_02_01 none (shapeCast _ (extractStridedSlice S8x256x512 ![0, 0, 512] (extf .f32 a3 bitsLt_bf16_f32) slices_S8x256x1024_S8x256x512_0_0_512) shapeCasts_S8x256x512_S8x256x4x128) (Host.divf E (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd E (constant (F := Ideal) S_ .f32 0x00000000#32) reducesTo_S8x4x2048x256_S8x4x2048_d3 h_S_))))) transposes_S8x4x128x2048_S8x2048x4x128_0_3_1_2) shapeCasts_S8x2048x4x128_S8x2048x512) shapeCasts_S8x2048x512_S16384x512) bitsLt_bf16_f32

/-- The reference's first result: the normalised input by tokens. -/
def REF0 (a0 : FVec Ideal S8x2048x2048 .f32) (a1 : FVec Ideal S1x2048 .f32) : FVec Ideal S16384x2048 .bf16 :=
  truncf .bf16 (shapeCast _ (hn a0 a1) shapeCasts_S8x2048x2048_S16384x2048) bitsLt_bf16_f32

/-- The reference's second result: the pooling branch's channels. -/
def REF1 (a0 : FVec Ideal S8x2048x2048 .f32) (a1 : FVec Ideal S1x2048 .f32) (a2 : FVec Ideal S1x2048x8192 .f32) : FVec Ideal S16384x1024 .f32 :=
  shapeCast _ (extractStridedSlice S8x2048x1024 ![0, 0, 0] (z a0 a1 a2) slices_S8x2048x8192_S8x2048x1024_0_0_0) shapeCasts_S8x2048x1024_S16384x1024

/-- The reference's third result: the Fourier branch's channels. -/
def REF2 (a0 : FVec Ideal S8x2048x2048 .f32) (a1 : FVec Ideal S1x2048 .f32) (a2 : FVec Ideal S1x2048x8192 .f32) : FVec Ideal S16384x512 .bf16 :=
  truncf .bf16 (shapeCast _ (extractStridedSlice S8x2048x512 ![0, 0, 1024] (z a0 a1 a2) slices_S8x2048x8192_S8x2048x512_0_0_1024) shapeCasts_S8x2048x512_S16384x512) bitsLt_bf16_f32

/-- The reference's fourth result: the attention over the memory. -/
def REF3 (a0 : FVec Ideal S8x2048x2048 .f32) (a1 : FVec Ideal S1x2048 .f32) (a2 : FVec Ideal S1x2048x8192 .f32) (a3 : FVec Ideal S8x256x1024 .bf16) : FVec Ideal S16384x512 .bf16 :=
  outOf (ex a0 a1 a2 a3) a3

/-- The reference's fifth result: the gates' weights. -/
def REF4 (a2 : FVec Ideal S1x2048x8192 .f32) : FVec Ideal S2048x6144 .bf16 :=
  truncf .bf16 (extractStridedSlice S2048x6144 ![0, 2048] (shapeCast _ a2 shapeCasts_S1x2048x8192_S2048x8192) slices_S2048x8192_S2048x6144_0_2048) bitsLt_bf16_f32

/-- A maximum folded from `b` is at least `b`. -/
theorem max_fold {ι : Type} [Fintype ι] (b : EReal) (f : ι → EReal) :
    max b (Finset.univ.fold max b f) = Finset.univ.fold max b f :=
  max_eq_right ((Finset.le_fold_max b).2 (Or.inl le_rfl))

/-- One channel of a row normalised by the root of its mean square, times the gain. -/
def nrm (x g : Fin 2048 → EReal) (k : Fin 2048) : EReal :=
  x k * Ideal.rsqrt (Ideal.div (∑ l, x l * x l) (Ideal.ofBits .f32 0x45000000#32) + Ideal.ofBits .f32 0x358637BD#32) * g k

/-- A normalised row's projection to one channel. -/
def proj (x g w : Fin 2048 → EReal) : EReal := ∑ k, nrm x g k * w k

/-- Equal rows and gains give equal normalised rows. -/
theorem nrm_congr {x x' g g' : Fin 2048 → EReal} {k k' : Fin 2048} (hx : ∀ k, x k = x' k) (hg : ∀ k, g k = g' k) (hk : k = k') :
    nrm x g k = nrm x' g' k' := by
  rw [funext hx, funext hg, hk]

/-- Equal rows, gains and weights give equal projections. -/
theorem proj_congr {x x' g g' w w' : Fin 2048 → EReal} (hx : ∀ k, x k = x' k) (hg : ∀ k, g k = g' k)
    (hw : ∀ k, w k = w' k) : proj x g w = proj x' g' w' := by
  rw [funext hx, funext hg, funext hw]

/-- The reference's normalised input. -/
theorem hn_eq (a0 : FVec Ideal S8x2048x2048 .f32) (a1 : FVec Ideal S1x2048 .f32) (b : Fin 8) (s k : Fin 2048) :
    hn a0 a1 (ix3 b s k) = nrm (fun k => a0 (ix3 b s k)) (fun k => a1 (ix2 0 k)) k := by
  pointwise [hn, nrm]

/-- The reference's projection. -/
theorem z_eq (a0 : FVec Ideal S8x2048x2048 .f32) (a1 : FVec Ideal S1x2048 .f32) (a2 : FVec Ideal S1x2048x8192 .f32) (b : Fin 8) (s : Fin 2048) (e : Fin 8192) :
    z a0 a1 a2 (ix3 b s e) = proj (fun k => a0 (ix3 b s k)) (fun k => a1 (ix2 0 k)) (fun k => a2 (ix3 0 k e)) := by
  have h : z a0 a1 a2 (ix3 b s e) = ∑ k : Fin 2048, hn a0 a1 (ix3 b s k) * a2 (ix3 0 k e) := by pointwise [z]
  rw [h]
  simp only [hn_eq, proj]

/-- The first result at token `s` of image `b`. -/
theorem ref0 (a0 : FVec Ideal S8x2048x2048 .f32) (a1 : FVec Ideal S1x2048 .f32) (b : Fin 8) (s k : Fin 2048) (i : S16384x2048.Idx)
    (h0 : (i 0 : ℕ) = b.val * 2048 + s.val) (h1 : (i 1 : ℕ) = k.val) : REF0 a0 a1 i
    = nrm (fun k => a0 (ix3 b s k)) (fun k => a1 (ix2 0 k)) k := by
  rw [← hn_eq]
  pointwise [REF0]
  have hb : (i 0 : ℕ) / 2048 = b.val := by omega
  have hs : (i 0 : ℕ) % 2048 = s.val := by omega
  simp only [hb, hs]
  exact congrArg (fun e => hn a0 a1 (ix3 b s e)) (Fin.ext h1)

/-- The second result at token `s` of image `b`. -/
theorem ref1 (a0 : FVec Ideal S8x2048x2048 .f32) (a1 : FVec Ideal S1x2048 .f32) (a2 : FVec Ideal S1x2048x8192 .f32) (b : Fin 8) (s : Fin 2048) (e : Fin 1024) (i : S16384x1024.Idx)
    (h0 : (i 0 : ℕ) = b.val * 2048 + s.val) (h1 : (i 1 : ℕ) = e.val) : REF1 a0 a1 a2 i
    = proj (fun k => a0 (ix3 b s k)) (fun k => a1 (ix2 0 k)) (fun k => a2 (ix3 0 k ⟨e.val, by omega⟩)) := by
  rw [← z_eq]
  pointwise [REF1]
  have hb : (i 0 : ℕ) / 2048 = b.val := by omega
  have hs : (i 0 : ℕ) % 2048 = s.val := by omega
  simp only [hb, hs]
  simp only [h1]

/-- The third result at token `s` of image `b`. -/
theorem ref2 (a0 : FVec Ideal S8x2048x2048 .f32) (a1 : FVec Ideal S1x2048 .f32) (a2 : FVec Ideal S1x2048x8192 .f32) (b : Fin 8) (s : Fin 2048) (e : Fin 512) (i : S16384x512.Idx)
    (h0 : (i 0 : ℕ) = b.val * 2048 + s.val) (h1 : (i 1 : ℕ) = e.val) : REF2 a0 a1 a2 i
    = proj (fun k => a0 (ix3 b s k)) (fun k => a1 (ix2 0 k)) (fun k => a2 (ix3 0 k ⟨1024 + e.val, by omega⟩)) := by
  rw [← z_eq]
  pointwise [REF2]
  have hb : (i 0 : ℕ) / 2048 = b.val := by omega
  have hs : (i 0 : ℕ) % 2048 = s.val := by omega
  simp only [hb, hs]
  simp only [h1]

/-- The reference's 128 is the real 128. -/
theorem ofBits_128 : Ideal.ofBits .f32 0x43000000#32 = ((128 : ℝ) : EReal) := by
  simp [Ideal.ofBits, Ideal.ieee, -EReal.coe_mul]
  norm_num

/-- Division by the root of 128 is multiplication with its inverse. -/
theorem over_root (x : EReal) : Ideal.div x (Ideal.sqrt (Ideal.ofBits .f32 0x43000000#32)) = x * (((Real.sqrt 128)⁻¹ : ℝ) : EReal) := by
  simp only [ofBits_128, Ideal.sqrt_coe, show ¬(128 : ℝ) < 0 from by norm_num, ↓reduceIte,
    Ideal.div_coe (show Real.sqrt 128 ≠ 0 from (Real.sqrt_pos.mpr (by norm_num)).ne'), one_div]

/-- The reference's score of a query against a key is the kernel's. -/
theorem sc_eq (a0 : FVec Ideal S8x2048x2048 .f32) (a1 : FVec Ideal S1x2048 .f32) (a2 : FVec Ideal S1x2048x8192 .f32) (a3 : FVec Ideal S8x256x1024 .bf16) (b : Fin 8) (h : Fin 4) (s : Fin 2048) (j : Fin 256) : sc a0 a1 a2 a3 (ix4 b h s j)
    = (∑ e : Fin 128, z a0 a1 a2 (ix3 b s ⟨1536 + (h.val * 128 + e.val), by omega⟩)
        * a3 (ix3 b j ⟨h.val * 128 + e.val, by omega⟩)) * (((Real.sqrt 128)⁻¹ : ℝ) : EReal) := by
  rw [← over_root]
  pointwise [sc]

/-- The reference's maximum of a row of scores. -/
theorem rowMax_eq (S : FVec Ideal S8x4x2048x256 .f32) (b : Fin 8) (h : Fin 4) (s : Fin 2048) :
    Host.reduce FloatOps.maximumf S (constant (F := Ideal) S_ .f32 0xFF800000#32) reducesTo_S8x4x2048x256_S8x4x2048_d3 h_S_ (ix3 b h s)
      = Finset.univ.fold max (Ideal.ofBits .f32 0xFF800000#32) fun l => S (ix4 b h s l) := by
  pointwise

/-- The larger of a row's maximum and the starting value. -/
theorem rowTop_eq (X : FVec Ideal S8x4x2048 .f32) (b : Fin 8) (h : Fin 4) (s : Fin 2048) :
    maximumf (broadcastInDim S8x4x2048 ![] bcast_S_S8x4x2048 (constant (F := Ideal) S_ .f32 0xFF800000#32)) X (ix3 b h s)
      = max (Ideal.ofBits .f32 0xFF800000#32) (X (ix3 b h s)) := by
  pointwise

/-- An exponential of a score minus a value of its row. -/
theorem exSub_eq (S : FVec Ideal S8x4x2048x256 .f32) (X : FVec Ideal S8x4x2048 .f32) (b : Fin 8) (h : Fin 4) (s : Fin 2048) (j : Fin 256) :
    Host.exp (subf S (broadcastInDim S8x4x2048x256 ![0, 1, 2, 3] bcast_S8x4x2048x1_S8x4x2048x256_0_1_2_3
        (broadcastInDim S8x4x2048x1 ![0, 1, 2] bcast_S8x4x2048_S8x4x2048x1_0_1_2 X))) (ix4 b h s j)
      = Ideal.exp (S (ix4 b h s j) - X (ix3 b h s)) := by
  pointwise

/-- The reference's exponential, in terms of its scores. -/
theorem ex_eq (a0 : FVec Ideal S8x2048x2048 .f32) (a1 : FVec Ideal S1x2048 .f32) (a2 : FVec Ideal S1x2048x8192 .f32) (a3 : FVec Ideal S8x256x1024 .bf16) (b : Fin 8) (h : Fin 4) (s : Fin 2048) (j : Fin 256) : ex a0 a1 a2 a3 (ix4 b h s j)
    = Ideal.exp (sc a0 a1 a2 a3 (ix4 b h s j)
        - Finset.univ.fold max (Ideal.ofBits .f32 0xFF800000#32) fun l => sc a0 a1 a2 a3 (ix4 b h s l)) := by
  unfold ex
  rw [exSub_eq, rowTop_eq, rowMax_eq, max_fold]

/-- The reference's last contraction, from any exponentials: weights over their row sum, times the values. -/
theorem outOf_eq (E : FVec Ideal S8x4x2048x256 .f32) (a3 : FVec Ideal S8x256x1024 .bf16)
    (b : Fin 8) (h : Fin 4) (s : Fin 2048) (d : Fin 128) (i : S16384x512.Idx)
    (h0 : (i 0 : ℕ) = b.val * 2048 + s.val) (h1 : (i 1 : ℕ) = h.val * 128 + d.val) : outOf E a3 i
    = ∑ j : Fin 256, a3 (ix3 b j ⟨512 + (h.val * 128 + d.val), by omega⟩)
        * Ideal.div (E (ix4 b h s j)) (∑ l : Fin 256, E (ix4 b h s l)) := by
  pointwise [outOf]
  have hb : (i 0 : ℕ) / 2048 = b.val := by omega
  have hs : (i 0 : ℕ) % 2048 = s.val := by omega
  have hh : (i 1 : ℕ) / 128 = h.val := by omega
  simp only [hb, hs, hh]
  simp only [h1]

end Cert.AttnRefIdeal.Mixing

namespace Cert.AttnIdeal.Mixing

open Cert.AttnIdeal Cert.AttnIdeal.Gen
open Cert.AttnRefIdeal.Mixing

/-- The kernel's scale is the inverse root of 128. -/
theorem scale : Named.named (F := Ideal) κ "inv_sqrt_d" (φ := .f32) 0x3DB504F3#32 = (((Real.sqrt 128)⁻¹ : ℝ) : EReal) :=
  IdealRules.named_const.ideal_named_scalar _ _ _ _ rfl

/-- One head's attention output from a query, the keys and one channel of the values. -/
def att (q : Fin 128 → EReal) (K : Fin 256 → Fin 128 → EReal) (V : Fin 256 → EReal) : EReal :=
  let s (j : Fin 256) : EReal := (∑ e, q e * K j e) * Named.named (F := Ideal) κ "inv_sqrt_d" (φ := .f32) 0x3DB504F3#32
  let p (j : Fin 256) : EReal := Ideal.exp (s j - Finset.univ.fold max (Ideal.ofBits .f32 0xFF800000#32) s)
  ∑ j, Ideal.div (p j) (∑ l, p l) * V j

/-- What row chunk 0 stores for head 0. -/
theorem head00 (q : FVec Ideal S256x512 .bf16) (K V : FVec Ideal S1x256x128 .bf16) (x : S256x128.Idx) :
    k0_pay31 (k0_pay23 (k0_pay13 q K)) V x
      = att (fun e => q (ix2 (x 0) ⟨0 + e.val, by omega⟩)) (fun j e => K (ix3 0 j e)) (fun j => V (ix3 0 j (x 1))) := by
  pointwise [k0_pay13, k0_pay23, k0_pay31, att]

/-- What row chunk 0 stores for head 1. -/
theorem head01 (q : FVec Ideal S256x512 .bf16) (K V : FVec Ideal S1x256x128 .bf16) (x : S256x128.Idx) :
    k0_pay32 (k0_pay24 (k0_pay14 q K)) V x
      = att (fun e => q (ix2 (x 0) ⟨128 + e.val, by omega⟩)) (fun j e => K (ix3 0 j e)) (fun j => V (ix3 0 j (x 1))) := by
  pointwise [k0_pay14, k0_pay24, k0_pay32, att]

/-- What row chunk 0 stores for head 2. -/
theorem head02 (q : FVec Ideal S256x512 .bf16) (K V : FVec Ideal S1x256x128 .bf16) (x : S256x128.Idx) :
    k0_pay33 (k0_pay25 (k0_pay15 q K)) V x
      = att (fun e => q (ix2 (x 0) ⟨256 + e.val, by omega⟩)) (fun j e => K (ix3 0 j e)) (fun j => V (ix3 0 j (x 1))) := by
  pointwise [k0_pay15, k0_pay25, k0_pay33, att]

/-- What row chunk 0 stores for head 3. -/
theorem head03 (q : FVec Ideal S256x512 .bf16) (K V : FVec Ideal S1x256x128 .bf16) (x : S256x128.Idx) :
    k0_pay34 (k0_pay26 (k0_pay18 (k0_pay16 q) (k0_pay17 K) (constant S256x256 .f32 0x00000000#32))) V x
      = att (fun e => q (ix2 (x 0) ⟨384 + e.val, by omega⟩)) (fun j e => K (ix3 0 j e)) (fun j => V (ix3 0 j (x 1))) := by
  pointwise [k0_pay16, k0_pay17, k0_pay18, k0_pay26, k0_pay34, att]

/-- What row chunk 1 stores for head 0. -/
theorem head10 (q : FVec Ideal S256x512 .bf16) (K V : FVec Ideal S1x256x128 .bf16) (x : S256x128.Idx) :
    k0_pay35 (k0_pay27 (k0_pay19 q K)) V x
      = att (fun e => q (ix2 (x 0) ⟨0 + e.val, by omega⟩)) (fun j e => K (ix3 0 j e)) (fun j => V (ix3 0 j (x 1))) := by
  pointwise [k0_pay19, k0_pay27, k0_pay35, att]

/-- What row chunk 1 stores for head 1. -/
theorem head11 (q : FVec Ideal S256x512 .bf16) (K V : FVec Ideal S1x256x128 .bf16) (x : S256x128.Idx) :
    k0_pay36 (k0_pay28 (k0_pay20 q K)) V x
      = att (fun e => q (ix2 (x 0) ⟨128 + e.val, by omega⟩)) (fun j e => K (ix3 0 j e)) (fun j => V (ix3 0 j (x 1))) := by
  pointwise [k0_pay20, k0_pay28, k0_pay36, att]

/-- What row chunk 1 stores for head 2. -/
theorem head12 (q : FVec Ideal S256x512 .bf16) (K V : FVec Ideal S1x256x128 .bf16) (x : S256x128.Idx) :
    k0_pay37 (k0_pay29 (k0_pay21 q K)) V x
      = att (fun e => q (ix2 (x 0) ⟨256 + e.val, by omega⟩)) (fun j e => K (ix3 0 j e)) (fun j => V (ix3 0 j (x 1))) := by
  pointwise [k0_pay21, k0_pay29, k0_pay37, att]

/-- What row chunk 1 stores for head 3. -/
theorem head13 (q : FVec Ideal S256x512 .bf16) (K V : FVec Ideal S1x256x128 .bf16) (x : S256x128.Idx) :
    k0_pay38 (k0_pay30 (k0_pay22 q K)) V x
      = att (fun e => q (ix2 (x 0) ⟨384 + e.val, by omega⟩)) (fun j e => K (ix3 0 j e)) (fun j => V (ix3 0 j (x 1))) := by
  pointwise [k0_pay22, k0_pay30, k0_pay38, att]

/-- The rows of chunk 0, normalised. -/
theorem rows0 (X : FVec Ideal S256x2048 .f32) (G : FVec Ideal S1x2048 .f32) (x : S256x2048.Idx) :
    k0_pay3 (F := Ideal) X G x = nrm (fun k => X (ix2 (x 0) k)) (fun k => G (ix2 0 k)) (x 1) := by
  pointwise [k0_pay3, nrm]

/-- The rows of chunk 1, normalised. -/
theorem rows1 (X : FVec Ideal S256x2048 .f32) (G : FVec Ideal S1x2048 .f32) (x : S256x2048.Idx) :
    k0_pay8 (F := Ideal) X G x = nrm (fun k => X (ix2 (x 0) k)) (fun k => G (ix2 0 k)) (x 1) := by
  pointwise [k0_pay8, nrm]

/-- Chunk 0's projection to the left half of the pooling channels. -/
theorem proj4 (X : FVec Ideal S256x2048 .f32) (G : FVec Ideal S1x2048 .f32) (W : FVec Ideal S2048x512 .bf16) (x : S256x512.Idx) :
    k0_pay4 (F := Ideal) X G W x = proj (fun k => X (ix2 (x 0) k)) (fun k => G (ix2 0 k)) (fun k => W (ix2 k (x 1))) := by
  have h : k0_pay4 (F := Ideal) X G W x = ∑ k : Fin 2048, k0_pay3 (F := Ideal) X G (ix2 (x 0) k) * W (ix2 k (x 1)) := by pointwise [k0_pay4]
  rw [h]
  simp only [rows0, proj]
  rfl

/-- Chunk 0's projection to the right half of the pooling channels. -/
theorem proj5 (X : FVec Ideal S256x2048 .f32) (G : FVec Ideal S1x2048 .f32) (W : FVec Ideal S2048x512 .bf16) (x : S256x512.Idx) :
    k0_pay5 (F := Ideal) X G W x = proj (fun k => X (ix2 (x 0) k)) (fun k => G (ix2 0 k)) (fun k => W (ix2 k (x 1))) := by
  have h : k0_pay5 (F := Ideal) X G W x = ∑ k : Fin 2048, k0_pay3 (F := Ideal) X G (ix2 (x 0) k) * W (ix2 k (x 1)) := by pointwise [k0_pay5]
  rw [h]
  simp only [rows0, proj]
  rfl

/-- Chunk 1's projection to the left half of the pooling channels. -/
theorem proj9 (X : FVec Ideal S256x2048 .f32) (G : FVec Ideal S1x2048 .f32) (W : FVec Ideal S2048x512 .bf16) (x : S256x512.Idx) :
    k0_pay9 (F := Ideal) X G W x = proj (fun k => X (ix2 (x 0) k)) (fun k => G (ix2 0 k)) (fun k => W (ix2 k (x 1))) := by
  have h : k0_pay9 (F := Ideal) X G W x = ∑ k : Fin 2048, k0_pay8 (F := Ideal) X G (ix2 (x 0) k) * W (ix2 k (x 1)) := by pointwise [k0_pay9]
  rw [h]
  simp only [rows1, proj]
  rfl

/-- Chunk 1's projection to the right half of the pooling channels. -/
theorem proj10 (X : FVec Ideal S256x2048 .f32) (G : FVec Ideal S1x2048 .f32) (W : FVec Ideal S2048x512 .bf16) (x : S256x512.Idx) :
    k0_pay10 (F := Ideal) X G W x = proj (fun k => X (ix2 (x 0) k)) (fun k => G (ix2 0 k)) (fun k => W (ix2 k (x 1))) := by
  have h : k0_pay10 (F := Ideal) X G W x = ∑ k : Fin 2048, k0_pay8 (F := Ideal) X G (ix2 (x 0) k) * W (ix2 k (x 1)) := by pointwise [k0_pay10]
  rw [h]
  simp only [rows1, proj]
  rfl

/-- Chunk 0's projection to the Fourier channels. -/
theorem proj6 (X : FVec Ideal S256x2048 .f32) (G : FVec Ideal S1x2048 .f32) (W : FVec Ideal S2048x512 .bf16) (x : S256x512.Idx) :
    k0_pay6 (F := Ideal) (k0_pay3 X G) W x = proj (fun k => X (ix2 (x 0) k)) (fun k => G (ix2 0 k)) (fun k => W (ix2 k (x 1))) := by
  have h : k0_pay6 (F := Ideal) (k0_pay3 X G) W x = ∑ k : Fin 2048, k0_pay3 (F := Ideal) X G (ix2 (x 0) k) * W (ix2 k (x 1)) := by pointwise [k0_pay6]
  rw [h]
  simp only [rows0, proj]
  rfl

/-- Chunk 1's projection to the Fourier channels. -/
theorem proj11 (X : FVec Ideal S256x2048 .f32) (G : FVec Ideal S1x2048 .f32) (W : FVec Ideal S2048x512 .bf16) (x : S256x512.Idx) :
    k0_pay11 (F := Ideal) (k0_pay8 X G) W x = proj (fun k => X (ix2 (x 0) k)) (fun k => G (ix2 0 k)) (fun k => W (ix2 k (x 1))) := by
  have h : k0_pay11 (F := Ideal) (k0_pay8 X G) W x = ∑ k : Fin 2048, k0_pay8 (F := Ideal) X G (ix2 (x 0) k) * W (ix2 k (x 1)) := by pointwise [k0_pay11]
  rw [h]
  simp only [rows1, proj]
  rfl

/-- Chunk 0's projection to the queries. -/
theorem proj7 (X : FVec Ideal S256x2048 .f32) (G : FVec Ideal S1x2048 .f32) (W : FVec Ideal S2048x512 .bf16) (x : S256x512.Idx) :
    k0_pay7 (F := Ideal) (k0_pay3 X G) W x = proj (fun k => X (ix2 (x 0) k)) (fun k => G (ix2 0 k)) (fun k => W (ix2 k (x 1))) := by
  have h : k0_pay7 (F := Ideal) (k0_pay3 X G) W x = ∑ k : Fin 2048, k0_pay3 (F := Ideal) X G (ix2 (x 0) k) * W (ix2 k (x 1)) := by pointwise [k0_pay7]
  rw [h]
  simp only [rows0, proj]
  rfl

/-- Chunk 1's projection to the queries. -/
theorem proj12 (X : FVec Ideal S256x2048 .f32) (G : FVec Ideal S1x2048 .f32) (W : FVec Ideal S2048x512 .bf16) (x : S256x512.Idx) :
    k0_pay12 (F := Ideal) (k0_pay8 X G) W x = proj (fun k => X (ix2 (x 0) k)) (fun k => G (ix2 0 k)) (fun k => W (ix2 k (x 1))) := by
  have h : k0_pay12 (F := Ideal) (k0_pay8 X G) W x = ∑ k : Fin 2048, k0_pay8 (F := Ideal) X G (ix2 (x 0) k) * W (ix2 k (x 1)) := by pointwise [k0_pay12]
  rw [h]
  simp only [rows1, proj]
  rfl

/-- The reference's attention result at token `s` of image `b` and channel `d` of head `h` is `att`. -/
theorem ref3 (a0 : FVec Ideal S8x2048x2048 .f32) (a1 : FVec Ideal S1x2048 .f32) (a2 : FVec Ideal S1x2048x8192 .f32) (a3 : FVec Ideal S8x256x1024 .bf16) (b : Fin 8) (h : Fin 4) (s : Fin 2048) (d : Fin 128) (i : S16384x512.Idx)
    (h0 : (i 0 : ℕ) = b.val * 2048 + s.val) (h1 : (i 1 : ℕ) = h.val * 128 + d.val) : REF3 a0 a1 a2 a3 i
    = att (fun e => z a0 a1 a2 (ix3 b s ⟨1536 + (h.val * 128 + e.val), by omega⟩))
        (fun j e => a3 (ix3 b j ⟨h.val * 128 + e.val, by omega⟩))
        (fun j => a3 (ix3 b j ⟨512 + (h.val * 128 + d.val), by omega⟩)) := by
  unfold REF3 att
  rw [outOf_eq _ _ b h s d i h0 h1]
  refine Finset.sum_congr rfl fun j _ => (mul_comm _ _).trans ?_
  simp only [ex_eq, sc_eq, scale]

/-- Equal queries, keys and values give equal outputs. -/
theorem att_congr {q q' : Fin 128 → EReal} {K K' : Fin 256 → Fin 128 → EReal} {V V' : Fin 256 → EReal}
    (hq : ∀ e, q e = q' e) (hK : ∀ j e, K j e = K' j e) (hV : ∀ j, V j = V' j) : att q K V = att q' K' V' := by
  rw [funext hq, funext fun j => funext (hK j), funext hV]

end Cert.AttnIdeal.Mixing
-- ==== Proof.KvValue.lean ====
module

public import proofs.«01_k».proof.Defs
public import proofs.«01_k».proof.Proof.Gen.KvIdeal.Value
public import proofs.«01_k».proof.Proof.Gen.KvRefIdeal.Run
public import proofs.«01_k».proof.Proof.AttnPure
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The memory's norm and its projection to keys and values: blocked, against the same of whole arrays -/

namespace Cert.KvRefIdeal.Memory

open Cert.KvRefIdeal Cert.KvRefIdeal.Gen
open Cert.AttnRefIdeal.Mixing (nrm proj)

/-- The reference's normalised memory, as its operations compose it. -/
def hn (a0 : FVec Ideal S8x256x2048 .f32) (a1 : FVec Ideal S1x2048 .f32) : FVec Ideal S8x256x2048 .f32 :=
  mulf (mulf a0 (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf a0 a0) (constant (F := Ideal) S_ .f32 0x00000000#32) reducesTo_S8x256x2048_S8x256_d2 h_S_)) (broadcastInDim S8x256x1 ![] bcast_S_S8x256x1 (constant (F := Ideal) S_ .f32 0x45000000#32))) (broadcastInDim S8x256x1 ![] bcast_S_S8x256x1 (constant (F := Ideal) S_ .f32 0x358637BD#32)))))) (broadcastInDim S8x256x2048 ![0, 1, 2] bcast_S1x1x2048_S8x256x2048_0_1_2 (broadcastInDim S1x1x2048 ![2] bcast_S2048_S1x1x2048_2 (shapeCast _ a1 shapeCasts_S1x2048_S2048)))

/-- The reference's keys and values of each image. -/
def kv (a0 : FVec Ideal S8x256x2048 .f32) (a1 : FVec Ideal S1x2048 .f32) (a2 : FVec Ideal S1x2048x1024 .f32) : FVec Ideal S8x256x1024 .f32 :=
  Host.dotGeneral (F := Ideal) (φ₁ := .f32) (φ₂ := .f32) dot_S8x256x2048_S2048x1024_S8x256x1024_2_0_01_1_n_n none (hn a0 a1) (shapeCast _ a2 shapeCasts_S1x2048x1024_S2048x1024)

/-- The reference's result: the keys and values by memory tokens. -/
def REF (a0 : FVec Ideal S8x256x2048 .f32) (a1 : FVec Ideal S1x2048 .f32) (a2 : FVec Ideal S1x2048x1024 .f32) : FVec Ideal S2048x1024 .bf16 :=
  truncf .bf16 (shapeCast _ (kv a0 a1 a2) shapeCasts_S8x256x1024_S2048x1024) bitsLt_bf16_f32

/-- The normalised memory is each token's normalised row. -/
theorem hn_eq (a0 : FVec Ideal S8x256x2048 .f32) (a1 : FVec Ideal S1x2048 .f32) (b : Fin 8) (s : Fin 256) (k : Fin 2048) :
    hn a0 a1 (ix3 b s k) = nrm (fun k => a0 (ix3 b s k)) (fun k => a1 (ix2 0 k)) k := by
  pointwise [hn, nrm]

/-- The keys and values are the projections of the normalised rows. -/
theorem kv_eq (a0 : FVec Ideal S8x256x2048 .f32) (a1 : FVec Ideal S1x2048 .f32) (a2 : FVec Ideal S1x2048x1024 .f32) (b : Fin 8) (s : Fin 256) (e : Fin 1024) :
    kv a0 a1 a2 (ix3 b s e) = proj (fun k => a0 (ix3 b s k)) (fun k => a1 (ix2 0 k)) (fun k => a2 (ix3 0 k e)) := by
  have h : kv a0 a1 a2 (ix3 b s e) = ∑ k : Fin 2048, hn a0 a1 (ix3 b s k) * a2 (ix3 0 k e) := by pointwise [kv]
  rw [h]
  simp only [hn_eq, proj]

/-- The result at memory token `s` of image `b`. -/
theorem ref (a0 : FVec Ideal S8x256x2048 .f32) (a1 : FVec Ideal S1x2048 .f32) (a2 : FVec Ideal S1x2048x1024 .f32) (b : Fin 8) (s : Fin 256) (e : Fin 1024) (i : S2048x1024.Idx)
    (h0 : (i 0 : ℕ) = b.val * 256 + s.val) (h1 : (i 1 : ℕ) = e.val) : REF a0 a1 a2 i
    = proj (fun k => a0 (ix3 b s k)) (fun k => a1 (ix2 0 k)) (fun k => a2 (ix3 0 k e)) := by
  rw [← kv_eq]
  pointwise [REF]
  have hb : (i 0 : ℕ) / 256 = b.val := by omega
  have hs : (i 0 : ℕ) % 256 = s.val := by omega
  simp only [hb, hs]
  exact congrArg (fun e => kv a0 a1 a2 (ix3 b s e)) (Fin.ext h1)

end Cert.KvRefIdeal.Memory

namespace Cert.KvIdeal.Memory

open Cert.KvIdeal Cert.KvIdeal.Gen
open Cert.AttnRefIdeal.Mixing (nrm proj proj_congr)
open Cert.KvRefIdeal.Memory (REF ref)

variable (m : (ℓ : Loc nD τ sig) → Buf (Elt Ideal) ℓ)

/-- The stored block: the projections of its normalised rows. -/
theorem block (X : FVec Ideal S1024x2048 .f32) (G : FVec Ideal S1x2048 .f32) (W : FVec Ideal S2048x512 .bf16) (x : S1024x512.Idx) :
    k0_pay2 (F := Ideal) X G W x = proj (fun k => X (ix2 (x 0) k)) (fun k => G (ix2 0 k)) (fun k => W (ix2 k (x 1))) := by
  pointwise [k0_pay2, proj, nrm]

/-- The block of each window at grid point `t`: row block `t % 2`, column block `t / 2`. -/
theorem idx : ∀ t : Fin cfg0.N, win0_0.index t = ![t.val % 2, 0] ∧ win0_1.index t = ![0, 0]
    ∧ win0_2.index t = ![0, t.val / 2] ∧ win0_3.index t = ![t.val % 2, t.val / 2] :=
  (by decide +kernel : ∀ t : Fin grid0.N, _)

/-- After point `n` the carried scratch holds the weights of its column block: they are written at the block's first
    point and left alone at the other. -/
theorem carried (c : Dev nD) (n : ℕ) : ∀ (h : n < cfg0.N), ∀ j, (outsAt0 m c n h).2 j
    = (show FVec Ideal S2048x512 .f32 from iblk m c 2 ⟨n, h⟩) j := by
  induction n with
  | zero =>
    intro h j
    rw [outsAt0_A m c ⟨0, h⟩ (by rfl)]
    frame_out
    pointwise [k0_pay1]
  | succ n ih =>
    intro h j
    by_cases h0 : (n + 1) % 2 = 0
    · rw [outsAt0_A m c ⟨n + 1, h⟩ h0]
      frame_out
      pointwise [k0_pay1]
    · have e : n / 2 = (n + 1) / 2 := by omega
      rw [outsAt0_B m c ⟨n + 1, h⟩ h0]
      refine Eq.trans ?_ ((ih (by omega) j).trans ?_)
      all_goals first | (frame_out; done) | (blk_ext [iblk, V, idx ⟨n, by omega⟩, idx ⟨n + 1, h⟩, e]; done)

/-- A block of the memory, as the array's own rows. -/
theorem rows_of (c : Dev nD) (t : Fin cfg0.N) (r : Fin 1024) (k : Fin 2048) (b : Fin 8) (s : Fin 256)
    (h : b.val * 256 + s.val = t.val % 2 * 1024 + r.val) :
    (iblk m c 0 t : FVec Ideal S1024x2048 .f32) (ix2 r k) = (m ((c : Thread nD τ).loc main_arg0)) (ix3 b s k) := by
  have ht : t.val < 4 := t.isLt
  have hb : b.val = (t.val % 2 * 1024 + r.val) / 256 := by omega
  have hs : s.val = (t.val % 2 * 1024 + r.val) % 256 := by omega
  blk_point [iblk, V, idx t]

/-- The gain's block is the gain. -/
theorem gain_of (c : Dev nD) (t : Fin cfg0.N) (k : Fin 2048) :
    (iblk m c 1 t : FVec Ideal S1x2048 .f32) (ix2 0 k) = (m ((c : Thread nD τ).loc main_arg1)) (ix2 0 k) := by
  blk_point [iblk, V, idx t]

/-- A block of the weights is its columns. -/
theorem weight_of (c : Dev nD) (t : Fin cfg0.N) (k : Fin 2048) (e : Fin 512) (e' : Fin 1024) (he : e'.val = t.val / 2 * 512 + e.val) :
    (iblk m c 2 t : FVec Ideal S2048x512 .f32) (ix2 k e) = (m ((c : Thread nD τ).loc main_arg2)) (ix3 0 k e') := by
  have ht : t.val < 4 := t.isLt
  blk_point [iblk, V, idx t]

/-- A stored element, from weights that are the point's block, is the reference's. -/
theorem elem (c : Dev nD) (t : Fin cfg0.N) (W : FVec Ideal S2048x512 .bf16)
    (hW : ∀ j, W j = (show FVec Ideal S2048x512 .f32 from iblk m c 2 t) j) (x : S1024x512.Idx) (i : S2048x1024.Idx)
    (h0 : (i 0 : ℕ) = t.val % 2 * 1024 + (x 0 : ℕ)) (h1 : (i 1 : ℕ) = t.val / 2 * 512 + (x 1 : ℕ)) :
    k0_pay2 (F := Ideal) (iblk m c 0 t) (iblk m c 1 t) W x
      = REF (m ((c : Thread nD τ).loc main_arg0)) (m ((c : Thread nD τ).loc main_arg1)) (m ((c : Thread nD τ).loc main_arg2)) i := by
  have ht : t.val < 4 := t.isLt
  have hx0 : (x 0 : ℕ) < 1024 := (x 0).isLt
  have hx1 : (x 1 : ℕ) < 512 := (x 1).isLt
  rw [block]
  refine (proj_congr (fun k => ?_) (fun k => ?_) (fun k => ?_)).trans
    (ref _ _ _ ⟨(t.val % 2 * 1024 + (x 0 : ℕ)) / 256, by omega⟩ ⟨(t.val % 2 * 1024 + (x 0 : ℕ)) % 256, by omega⟩
      ⟨t.val / 2 * 512 + (x 1 : ℕ), by omega⟩ i ?_ h1).symm
  · exact rows_of m c t _ _ _ _ (by dsimp only; omega)
  · exact gain_of m c t _
  · exact (hW _).trans (weight_of m c t _ _ _ rfl)
  · dsimp only
    omega

/-- After the run the result array holds the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 4 := t.isLt
  blk_simp
  rw [after0_3]
  by_cases hz : t.val % 2 = 0
  · rw [outsAt0_A m c t hz]
    frame_out
    refine elem m c t _ (fun j => ?_) _ _ ?_ ?_
    · pointwise [k0_pay1]
    · blk_simp [idx t]
    · blk_simp [idx t]
  · have hprev := lt_of_le_of_lt (Nat.sub_le t.val 1) t.isLt
    have e : (t.val - 1) / 2 = t.val / 2 := by omega
    rw [outsAt0_B m c t hz]
    frame_out
    refine elem m c t _ (fun j => ?_) _ _ ?_ ?_
    · refine (congrFun ((Memref.isWhole_whole _).read_unread _) _).trans ((carried m c (t.val - 1) hprev j).trans ?_)
      blk_ext [iblk, V, idx t, idx ⟨t.val - 1, hprev⟩, e]
    · blk_simp [idx t]
    · blk_simp [idx t]

/-- Kernel and reference compute the same array over the extended reals. -/
theorem algebraic : Cert.algebraic_KvIdeal_KvRefIdeal := by
  pair_intro
  · run_from Cert.KvIdeal.Gen.run_main m g
  · run_from Cert.KvRefIdeal.Value.run m' g'
    rw [final m c]
    rfl

end Cert.KvIdeal.Memory
-- ==== Proof.AttnValue.lean ====
module

public import proofs.«01_k».proof.Defs
public import proofs.«01_k».proof.Proof.Gen.AttnIdeal.Value
public import proofs.«01_k».proof.Proof.Gen.AttnRefIdeal.Run
public import Idealize.ShloMosaic.Lib.Pipeline.ReadBack
public import Idealize.ShloMosaic.Lib.Pipeline.ValueKit
public import Idealize.ShloMosaic.Lib.Pointwise
public import Idealize.ShloMosaic.Lib.Claim
public import proofs.«01_k».proof.Proof.AttnPure

@[expose] public section

set_option maxRecDepth 16384

noncomputable section

open Idealize.ShloMosaic Idealize.ShloMosaic.TcCoe Idealize.SL.Sem
open Idealize.ShloMosaic.Pipeline (Dat)

/-! # The mixing input call: what its result arrays hold after the run -/

namespace Cert.AttnIdeal.Mixing

open Cert.AttnIdeal Cert.AttnIdeal.Gen
open Cert.AttnRefIdeal.Mixing

variable (m : (ℓ : Loc nD τ sig) → Buf (Elt Ideal) ℓ)

/-- The block of each window at grid point `t`: row block `t`, of batch row `t / 4`; the gates' slab `min t 23`. -/
theorem idx : ∀ t : Fin cfg0.N, win0_0.index t = ![t.val, 0] ∧ win0_1.index t = ![0, 0]
    ∧ win0_2.index t = ![0, 0] ∧ win0_3.index t = ![t.val / 4, 0, 0] ∧ win0_4.index t = ![0, 8 + min t.val 23]
    ∧ win0_5.index t = ![t.val, 0] ∧ win0_6.index t = ![t.val, 0] ∧ win0_7.index t = ![t.val, 0]
    ∧ win0_8.index t = ![t.val, 0] ∧ win0_9.index t = ![0, min t.val 23] :=
  (by decide +kernel : ∀ t : Fin grid0.N, _)

set_option maxHeartbeats 1600000 in
/-- After point `n` the carried scratch holds the mixing columns' weights: they are written at the first point and
    left alone at the others. -/
theorem carried (c : Dev nD) (n : ℕ) : ∀ (h : n < cfg0.N), ∀ j, (outsAt0 m c n h).2.2.2.2.2 j
    = (show FVec Ideal S2048x2048 .f32 from iblk m c 2 ⟨n, h⟩) j := by
  induction n with
  | zero =>
    intro h j
    rw [outsAt0_A m c ⟨0, h⟩ (by rfl)]
    frame_out
    pointwise [k0_pay1]
  | succ n ih =>
    intro h j
    by_cases h0 : (n + 1) % 32 = 0
    · rw [outsAt0_A m c ⟨n + 1, h⟩ h0]
      frame_out
      pointwise [k0_pay1]
    · rw [outsAt0_B m c ⟨n + 1, h⟩ h0]
      refine Eq.trans ?_ ((ih (by omega) j).trans ?_)
      all_goals first | (frame_out; done) | (blk_ext [iblk, V, idx ⟨n, by omega⟩, idx ⟨n + 1, h⟩]; done)

/-- A block of the input, as the array's own rows. -/
theorem rows_of (c : Dev nD) (t : Fin cfg0.N) (r : Fin 512) (k : Fin 2048) (b : Fin 8) (s : Fin 2048)
    (hb : b.val = t.val / 4) (hs : s.val = t.val % 4 * 512 + r.val) :
    (iblk m c 0 t : FVec Ideal S512x2048 .f32) (ix2 r k) = (m ((c : Thread nD τ).loc main_arg0)) (ix3 b s k) := by
  have ht : t.val < 32 := t.isLt
  blk_point [iblk, V, idx t]

/-- The gain's block is the gain. -/
theorem gain_of (c : Dev nD) (t : Fin cfg0.N) (k : Fin 2048) :
    (iblk m c 1 t : FVec Ideal S1x2048 .f32) (ix2 0 k) = (m ((c : Thread nD τ).loc main_arg1)) (ix2 0 k) := by
  blk_point [iblk, V, idx t]

/-- The weights' block is the mixing columns. -/
theorem weight_of (c : Dev nD) (t : Fin cfg0.N) (k e : Fin 2048) (e' : Fin 8192) (he : e'.val = e.val) :
    (iblk m c 2 t : FVec Ideal S2048x2048 .f32) (ix2 k e) = (m ((c : Thread nD τ).loc main_arg2)) (ix3 0 k e') := by
  blk_point [iblk, V, idx t]

/-- A block of the memory's projections is an image's. -/
theorem mem_of (c : Dev nD) (t : Fin cfg0.N) (j : Fin 256) (e e' : Fin 1024) (b : Fin 8) (hb : b.val = t.val / 4) (he : e'.val = e.val) :
    (iblk m c 3 t : FVec Ideal S1x256x1024 .bf16) (ix3 0 j e) = (m ((c : Thread nD τ).loc main_arg3)) (ix3 b j e') := by
  have ht : t.val < 32 := t.isLt
  blk_point [iblk, V, idx t]

set_option maxHeartbeats 1600000 in
/-- After the run the first result holds the normalised input. -/
theorem final5 (c : Dev nD) : (dats m 0 c).arrAt 5 (cfgs 0).N = REF0 (m ((c : Thread nD τ).loc main_arg0)) (m ((c : Thread nD τ).loc main_arg1)) := by
  refine (dats m 0 c).arrAt_eq_of_covers 5 _ (by decide +kernel) fun t _ y => ?_
  have ht : t.val < 32 := t.isLt
  blk_simp
  rw [after0_5]
  by_cases hz : t.val % 32 = 0
  · rw [outsAt0_A m c t hz]
    frame_out
    canon_tiles x h
    all_goals
      have hx0 : (x 0 : ℕ) < 256 := (x 0).isLt
      have hx1 : (x 1 : ℕ) < 2048 := (x 1).isLt
    case piece0 =>
      rw [rows1]
      refine (nrm_congr (fun k => ?_) (fun k => ?_) ?_).trans
        (ref0 _ _ ⟨t.val / 4, by omega⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · rfl
      · pointwise
        blk_simp [idx t]
        omega
      · pointwise
        blk_simp [idx t]
        omega
    case piece1 =>
      rw [rows0]
      refine (nrm_congr (fun k => ?_) (fun k => ?_) ?_).trans
        (ref0 _ _ ⟨t.val / 4, by omega⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · rfl
      · pointwise
        blk_simp [idx t]
        omega
      · pointwise
        blk_simp [idx t]
        omega
  · have hprev := lt_of_le_of_lt (Nat.sub_le t.val 1) t.isLt
    have hc := carried m c (t.val - 1) hprev
    rw [outsAt0_B m c t hz]
    frame_out
    canon_tiles x h
    all_goals
      have hx0 : (x 0 : ℕ) < 256 := (x 0).isLt
      have hx1 : (x 1 : ℕ) < 2048 := (x 1).isLt
    case piece0 =>
      rw [rows1]
      refine (nrm_congr (fun k => ?_) (fun k => ?_) ?_).trans
        (ref0 _ _ ⟨t.val / 4, by omega⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · rfl
      · pointwise
        blk_simp [idx t]
        omega
      · pointwise
        blk_simp [idx t]
        omega
    case piece1 =>
      rw [rows0]
      refine (nrm_congr (fun k => ?_) (fun k => ?_) ?_).trans
        (ref0 _ _ ⟨t.val / 4, by omega⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · rfl
      · pointwise
        blk_simp [idx t]
        omega
      · pointwise
        blk_simp [idx t]
        omega

set_option maxHeartbeats 1600000 in
/-- After the run the second result holds the pooling branch's channels. -/
theorem final6 (c : Dev nD) : (dats m 0 c).arrAt 6 (cfgs 0).N = REF1 (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 32 := t.isLt
  blk_simp
  rw [after0_6]
  by_cases hz : t.val % 32 = 0
  · rw [outsAt0_A m c t hz]
    frame_out
    canon_tiles x h
    all_goals
      have hx0 : (x 0 : ℕ) < 256 := (x 0).isLt
      have hx1 : (x 1 : ℕ) < 512 := (x 1).isLt
    case piece0 =>
      rw [proj10]
      refine (proj_congr (fun k => ?_) (fun k => ?_) (fun k => ?_)).trans
        (ref1 _ _ _ ⟨t.val / 4, by omega⟩ ⟨t.val % 4 * 512 + (256 + (x 0 : ℕ)), by omega⟩ ⟨512 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
    case piece1 =>
      rw [proj9]
      refine (proj_congr (fun k => ?_) (fun k => ?_) (fun k => ?_)).trans
        (ref1 _ _ _ ⟨t.val / 4, by omega⟩ ⟨t.val % 4 * 512 + (256 + (x 0 : ℕ)), by omega⟩ ⟨0 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
    case piece2 =>
      rw [proj5]
      refine (proj_congr (fun k => ?_) (fun k => ?_) (fun k => ?_)).trans
        (ref1 _ _ _ ⟨t.val / 4, by omega⟩ ⟨t.val % 4 * 512 + (0 + (x 0 : ℕ)), by omega⟩ ⟨512 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
    case piece3 =>
      rw [proj4]
      refine (proj_congr (fun k => ?_) (fun k => ?_) (fun k => ?_)).trans
        (ref1 _ _ _ ⟨t.val / 4, by omega⟩ ⟨t.val % 4 * 512 + (0 + (x 0 : ℕ)), by omega⟩ ⟨0 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
  · have hprev := lt_of_le_of_lt (Nat.sub_le t.val 1) t.isLt
    have hc := carried m c (t.val - 1) hprev
    rw [outsAt0_B m c t hz]
    frame_out
    canon_tiles x h
    all_goals
      have hx0 : (x 0 : ℕ) < 256 := (x 0).isLt
      have hx1 : (x 1 : ℕ) < 512 := (x 1).isLt
    case piece0 =>
      rw [proj10]
      refine (proj_congr (fun k => ?_) (fun k => ?_) (fun k => ?_)).trans
        (ref1 _ _ _ ⟨t.val / 4, by omega⟩ ⟨t.val % 4 * 512 + (256 + (x 0 : ℕ)), by omega⟩ ⟨512 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega
    case piece1 =>
      rw [proj9]
      refine (proj_congr (fun k => ?_) (fun k => ?_) (fun k => ?_)).trans
        (ref1 _ _ _ ⟨t.val / 4, by omega⟩ ⟨t.val % 4 * 512 + (256 + (x 0 : ℕ)), by omega⟩ ⟨0 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega
    case piece2 =>
      rw [proj5]
      refine (proj_congr (fun k => ?_) (fun k => ?_) (fun k => ?_)).trans
        (ref1 _ _ _ ⟨t.val / 4, by omega⟩ ⟨t.val % 4 * 512 + (0 + (x 0 : ℕ)), by omega⟩ ⟨512 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega
    case piece3 =>
      rw [proj4]
      refine (proj_congr (fun k => ?_) (fun k => ?_) (fun k => ?_)).trans
        (ref1 _ _ _ ⟨t.val / 4, by omega⟩ ⟨t.val % 4 * 512 + (0 + (x 0 : ℕ)), by omega⟩ ⟨0 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega

set_option maxHeartbeats 1600000 in
/-- After the run the third result holds the Fourier branch's channels. -/
theorem final7 (c : Dev nD) : (dats m 0 c).arrAt 7 (cfgs 0).N = REF2 (m ((c : Thread nD τ).loc main_arg0)) (m ((c : Thread nD τ).loc main_arg1)) (m ((c : Thread nD τ).loc main_arg2)) := by
  refine (dats m 0 c).arrAt_eq_of_covers 7 _ (by decide +kernel) fun t _ y => ?_
  have ht : t.val < 32 := t.isLt
  blk_simp
  rw [after0_7]
  by_cases hz : t.val % 32 = 0
  · rw [outsAt0_A m c t hz]
    frame_out
    canon_tiles x h
    all_goals
      have hx0 : (x 0 : ℕ) < 256 := (x 0).isLt
      have hx1 : (x 1 : ℕ) < 512 := (x 1).isLt
    case piece0 =>
      rw [proj11]
      refine (proj_congr (fun k => ?_) (fun k => ?_) (fun k => ?_)).trans
        (ref2 _ _ _ ⟨t.val / 4, by omega⟩ ⟨t.val % 4 * 512 + (256 + (x 0 : ℕ)), by omega⟩ ⟨0 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
    case piece1 =>
      rw [proj6]
      refine (proj_congr (fun k => ?_) (fun k => ?_) (fun k => ?_)).trans
        (ref2 _ _ _ ⟨t.val / 4, by omega⟩ ⟨t.val % 4 * 512 + (0 + (x 0 : ℕ)), by omega⟩ ⟨0 + (x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        blk_simp [idx t]
        omega
      · pointwise
        blk_simp [idx t]
        omega
  · have hprev := lt_of_le_of_lt (Nat.sub_le t.val 1) t.isLt
    have hc := carried m c (t.val - 1) hprev
    rw [outsAt0_B m c t hz]
    frame_out
    canon_tiles x h
    all_goals
      have hx0 : (x 0 : ℕ) < 256 := (x 0).isLt
      have hx1 : (x 1 : ℕ) < 512 := (x 1).isLt
    case piece0 =>
      rw [proj11]
      refine (proj_congr (fun k => ?_) (fun k => ?_) (fun k => ?_)).trans
        (ref2 _ _ _ ⟨t.val / 4, by omega⟩ ⟨t.val % 4 * 512 + (256 + (x 0 : ℕ)), by omega⟩ ⟨0 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega
    case piece1 =>
      rw [proj6]
      refine (proj_congr (fun k => ?_) (fun k => ?_) (fun k => ?_)).trans
        (ref2 _ _ _ ⟨t.val / 4, by omega⟩ ⟨t.val % 4 * 512 + (0 + (x 0 : ℕ)), by omega⟩ ⟨0 + (x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        blk_simp [idx t]
        omega
      · pointwise
        blk_simp [idx t]
        omega

set_option maxHeartbeats 1600000 in
/-- After the run the fourth result holds the attention over the memory. -/
theorem final8 (c : Dev nD) : (dats m 0 c).arrAt 8 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have ht : t.val < 32 := t.isLt
  blk_simp
  rw [after0_8]
  by_cases hz : t.val % 32 = 0
  · rw [outsAt0_A m c t hz]
    frame_out
    canon_tiles x h
    all_goals
      have hx0 : (x 0 : ℕ) < 256 := (x 0).isLt
      have hx1 : (x 1 : ℕ) < 128 := (x 1).isLt
    case piece0 =>
      rw [head13]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨3, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece1 =>
      rw [head12]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨2, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece2 =>
      rw [head11]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨1, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece3 =>
      rw [head10]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨0, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece4 =>
      rw [head03]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨3, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece5 =>
      rw [head02]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨2, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece6 =>
      rw [head01]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨1, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece7 =>
      rw [head00]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨0, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · refine (congrFun (View.readCov_fill (View.whole cc0_scratch0) _ _ [] _ (by decide)) _).trans ?_
        pointwise [k0_pay1]
        exact weight_of m c t _ _ _ (by first | (dsimp only; omega) | rfl)
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
  · have hprev := lt_of_le_of_lt (Nat.sub_le t.val 1) t.isLt
    have hc := carried m c (t.val - 1) hprev
    rw [outsAt0_B m c t hz]
    frame_out
    canon_tiles x h
    all_goals
      have hx0 : (x 0 : ℕ) < 256 := (x 0).isLt
      have hx1 : (x 1 : ℕ) < 128 := (x 1).isLt
    case piece0 =>
      rw [head13]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨3, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece1 =>
      rw [head12]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨2, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece2 =>
      rw [head11]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨1, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece3 =>
      rw [head10]
      refine Eq.trans (att_congr (fun e => ((proj12 _ _ _ _).trans (proj_congr (fun k => ?_) (fun k => ?_) (fun k => ?_))).trans
          (z_eq _ _ _ ⟨t.val / 4, by omega⟩ ⟨t.val % 4 * 512 + (256 + (x 0 : ℕ)), by omega⟩ _).symm) (fun j e => ?_) (fun j => ?_))
        (ref3 _ _ _ _ ⟨t.val / 4, by omega⟩ ⟨0, by decide⟩ ⟨t.val % 4 * 512 + (256 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece4 =>
      rw [head03]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨3, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece5 =>
      rw [head02]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨2, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece6 =>
      rw [head01]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨1, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega
    case piece7 =>
      rw [head00]
      refine Eq.trans (att_congr (fun e => ((proj7 _ _ _ _).trans (proj_congr (fun k => ?_) (fun k => ?_) (fun k => ?_))).trans
          (z_eq _ _ _ ⟨t.val / 4, by omega⟩ ⟨t.val % 4 * 512 + (0 + (x 0 : ℕ)), by omega⟩ _).symm) (fun j e => ?_) (fun j => ?_))
        (ref3 _ _ _ _ ⟨t.val / 4, by omega⟩ ⟨0, by decide⟩ ⟨t.val % 4 * 512 + (0 + (x 0 : ℕ)), by omega⟩ ⟨(x 1 : ℕ), by omega⟩ _ ?_ ?_).symm
      · pointwise
        exact rows_of m c t _ _ _ _ rfl rfl
      · exact gain_of m c t _
      · pointwise [k0_pay1]
        exact (congrFun ((Memref.isWhole_whole _).read_unread _) _).trans ((hc _).trans (weight_of m c _ _ _ _ (by first | (dsimp only; omega) | rfl)))
      · pointwise
        exact mem_of m c t _ _ _ _ (by first | (dsimp only; omega) | rfl) (by first | (dsimp only; omega) | rfl)
      · pointwise
        exact mem_of m c t _ _ _ _ (by first | (dsimp only; omega) | rfl) (by first | (dsimp only; omega) | rfl)
      · pointwise
        blk_simp [idx t]
        omega
      · pointwise
        blk_simp [idx t]
        omega

/-- After the run the fifth result holds the gates' weights. -/
theorem final9 (c : Dev nD) : (dats m 0 c).arrAt 9 (cfgs 0).N = REF4 (m ((c : Thread nD τ).loc main_arg2)) := by
  refine (dats m 0 c).arrAt_eq_of_covers 9 _ (by decide +kernel) fun t _ y => ?_
  have ht : t.val < 32 := t.isLt
  blk_simp
  rw [after0_9]
  by_cases hz : t.val % 32 = 0
  · rw [outsAt0_A m c t hz]
    frame_out
    pointwise [k0_pay2, REF4]
    blk_point [iblk, V, idx t]
  · rw [outsAt0_B m c t hz]
    frame_out
    pointwise [k0_pay2, REF4]
    blk_point [iblk, V, idx t]

/-- Kernel and reference compute the same five arrays over the extended reals. -/
theorem algebraic : Cert.algebraic_AttnIdeal_AttnRefIdeal := by
  pair_intro
  · run_from Cert.AttnIdeal.Gen.run_main m g
  · run_from Cert.AttnRefIdeal.Value.run m' g'
    · exact (final5 m c).symm
    · exact (final6 m c).symm
    · exact (final7 m c).symm
    · rw [final8 m c]
      obtain ⟨e0, e1, e2, e3⟩ := hagree c
      unfold Cert.AttnRefIdeal.Value.res_main_v49
      rw [e0, e1, e2, e3]
      rfl
    · exact (final9 m c).symm

end Cert.AttnIdeal.Mixing
-- ==== Proof.PoolPure.lean ====
module

public import proofs.«01_k».proof.Defs
public import proofs.«01_k».proof.Proof.Gen.PoolIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # Sliding-window totals: a tree of shifted additions, and a masked sum over all positions -/

namespace Cert.PoolIdeal.Pooling

/-- A sequence of 2048 rows with 32 rows of zeros on each side. -/
def pad (u : Fin 2048 → Fin 256 → EReal) (r : ℕ) (j : Fin 256) : EReal :=
  if h : 32 ≤ r ∧ r < 2080 then u ⟨r - 32, by omega⟩ j else 0

/-- A row in the middle. -/
theorem pad_mid (u : Fin 2048 → Fin 256 → EReal) (r : ℕ) (j : Fin 256) (h : 32 ≤ r) (h' : r < 2080) : pad u r j = u ⟨r - 32, by omega⟩ j :=
  dif_pos ⟨h, h'⟩

/-- A row of a margin. -/
theorem pad_out (u : Fin 2048 → Fin 256 → EReal) (r : ℕ) (j : Fin 256) (h : ¬(32 ≤ r ∧ r < 2080)) : pad u r j = 0 := dif_neg h

/-- One level of the tree: a row is the sum of the rows `d` above and `e` below it. -/
def step (d e : ℕ) (f : ℕ → Fin 256 → EReal) (r : ℕ) (j : Fin 256) : EReal := f (r - d) j + f (r + e) j

/-- The `w` rows from `h` above. -/
def win (h w : ℕ) (f : ℕ → Fin 256 → EReal) (r : ℕ) (j : Fin 256) : EReal := ∑ k ∈ Finset.range w, f (r - h + k) j

theorem step_one (f : ℕ → Fin 256 → EReal) (r : ℕ) (j : Fin 256) (hr : 1 ≤ r) : step 1 0 f r j = win 1 2 f r j := by
  simp only [step, win, Finset.sum_range_succ, Finset.sum_range_zero, zero_add, Nat.add_zero]
  rw [show r - 1 + 1 = r by omega]

/-- A level over windows of `w` rows gives windows of `2 w` rows. -/
theorem step_win (d h w : ℕ) (f g : ℕ → Fin 256 → EReal) (r : ℕ) (j : Fin 256) (hr : h + d ≤ r) (hw : w = 2 * d)
    (hg : ∀ r, h ≤ r → g r j = win h w f r j) : step d d g r j = win (h + d) (w + w) f r j := by
  rw [step, hg _ (by omega), hg _ (by omega)]
  simp only [win]
  rw [Finset.sum_range_add]
  congr 1
  · exact Finset.sum_congr rfl fun k _ => by rw [Nat.sub_sub, Nat.add_comm d h]
  · exact Finset.sum_congr rfl fun k _ => by rw [show r + d - h + k = r - (h + d) + (w + k) by omega]

theorem tree2 (f : ℕ → Fin 256 → EReal) (r : ℕ) (j : Fin 256) (hr : 1 ≤ r) : step 1 0 f r j = win 1 2 f r j :=
  step_one f r j hr

theorem tree4 (f : ℕ → Fin 256 → EReal) (r : ℕ) (j : Fin 256) (hr : 2 ≤ r) :
    step 1 1 (step 1 0 f) r j = win 2 4 f r j :=
  step_win 1 1 2 f _ r j hr rfl fun r h => tree2 f r j h

theorem tree8 (f : ℕ → Fin 256 → EReal) (r : ℕ) (j : Fin 256) (hr : 4 ≤ r) :
    step 2 2 (step 1 1 (step 1 0 f)) r j = win 4 8 f r j :=
  step_win 2 2 4 f _ r j hr rfl fun r h => tree4 f r j h

theorem tree16 (f : ℕ → Fin 256 → EReal) (r : ℕ) (j : Fin 256) (hr : 8 ≤ r) :
    step 4 4 (step 2 2 (step 1 1 (step 1 0 f))) r j = win 8 16 f r j :=
  step_win 4 4 8 f _ r j hr rfl fun r h => tree8 f r j h

/-- A run of terms is a masked sum over a longer range. -/
theorem range_window (F : ℕ → EReal) (a w M : ℕ) (h : a + w ≤ M) :
    ∑ k ∈ Finset.range w, F (a + k) = ∑ r ∈ Finset.range M, if a ≤ r ∧ r < a + w then F r else 0 := by
  rw [← Finset.sum_filter, show (Finset.range M).filter (fun r => a ≤ r ∧ r < a + w) = Finset.Ico a (a + w) by
    ext r; simp only [Finset.mem_filter, Finset.mem_range, Finset.mem_Ico]; omega,
    Finset.sum_Ico_eq_sum_range, Nat.add_sub_cancel_left]

/-- The window's total of the padded rows is the masked sum over all 2048 rows. -/
theorem win_pad (u : Fin 2048 → Fin 256 → EReal) (h w s : ℕ) (j : Fin 256) (hh : h ≤ 32) (hw : w ≤ 32) (hs : s < 2048) :
    win h w (pad u) (32 + s) j = ∑ t : Fin 2048, if s ≤ (t : ℕ) + h ∧ (t : ℕ) + h < s + w then u t j else 0 := by
  rw [win, range_window (fun r => pad u r j) (32 + s - h) w (32 + (2048 + 32)) (by omega), Finset.sum_range_add,
    Finset.sum_range_add, Finset.sum_eq_zero, zero_add, add_comm, Finset.sum_eq_zero, zero_add, Finset.sum_range]
  · refine Finset.sum_congr rfl fun t _ => ?_
    have ht := t.isLt
    rw [pad, dif_pos ⟨by omega, by omega⟩]
    refine if_congr ⟨fun _ => ⟨by omega, by omega⟩, fun _ => ⟨by omega, by omega⟩⟩ ?_ rfl
    exact congrArg (fun i => u i j) (Fin.ext (by show 32 + (t : ℕ) - 32 = t; omega))
  · intro r hr
    rw [pad, dif_neg (by omega), ite_self]
  · intro r hr
    rw [pad, dif_neg (by have := Finset.mem_range.mp hr; omega), ite_self]

/-! ## A buffer written row block by row block -/

open Cert.PoolIdeal Cert.PoolIdeal.Gen

/-- The buffer holds `f` in the rows from `lo` to before `hi`. -/
def Holds (L : List (View.Piece (Elt Ideal) S2112x256 .f32)) (f : ℕ → Fin 256 → EReal) (lo hi : ℕ) : Prop :=
  ∀ y : S2112x256.Idx, lo ≤ (y 0 : ℕ) → (y 0 : ℕ) < hi → (View.canon L y : EReal) = f (y 0) (y 1)

/-- A store under which the claim holds, over stores under which it holds elsewhere. -/
theorem push {L : List (View.Piece (Elt Ideal) S2112x256 .f32)} {f : ℕ → Fin 256 → EReal} {r n : ℕ}
    (inb : ∀ a, (![r, 0] : Fin 2 → ℕ) a + (![n, 256] : Fin 2 → ℕ) a ≤ S2112x256.size a)
    (w : (Rect.unit (s := S2112x256) ![r, 0] ![n, 256] inb).shape.Idx → Elt Ideal .f32) (y : S2112x256.Idx)
    (hw : ∀ x, (w x : EReal) = f (r + (x 0 : ℕ)) (x 1))
    (hL : ((y 0 : ℕ) < r ∨ r + n ≤ (y 0 : ℕ)) → (View.canon L y : EReal) = f (y 0) (y 1)) :
    (View.canon (⟨Rect.unit (s := S2112x256) ![r, 0] ![n, 256] inb, w⟩ :: L) y : EReal) = f (y 0) (y 1) := by
  by_cases h : y ∈ (Rect.unit (s := S2112x256) ![r, 0] ![n, 256] inb).set
  · obtain ⟨x, hx⟩ := LoadRect.exists_idx_of_mem _ h
    obtain rfl : (Rect.unit (s := S2112x256) ![r, 0] ![n, 256] inb).emb x = y := hx
    refine (View.canon_cons_emb _ w L x).trans ((hw x).trans ?_)
    congr 1
    · show r + (x 0 : ℕ) = r + 1 * (x 0 : ℕ)
      omega
    · exact Fin.ext (by show (x 1 : ℕ) = 0 + 1 * (x 1 : ℕ); omega)
  · refine (View.canon_cons_of_not_mem (⟨Rect.unit (s := S2112x256) ![r, 0] ![n, 256] inb, w⟩ :
      View.Piece (Elt Ideal) S2112x256 .f32) L h).trans (hL ?_)
    by_contra hc
    exact h (Rect.mem_set_unit.mpr (Fin.forall_fin_two.mpr
      ⟨⟨by show r ≤ (y 0 : ℕ); omega, by show (y 0 : ℕ) < r + n; omega⟩,
        ⟨Nat.zero_le _, lt_of_lt_of_eq (y 1).isLt rfl⟩⟩))

/-- A load of rows the buffer holds. -/
theorem load {L : List (View.Piece (Elt Ideal) S2112x256 .f32)} {f : ℕ → Fin 256 → EReal} {lo hi o n : ℕ}
    {κ : Kind} {sp : Space} (v : View sig κ sp S2112x256 .f32)
    (inb : ∀ a, (![o, 0] : Fin 2 → ℕ) a + (![n, 256] : Fin 2 → ℕ) a ≤ S2112x256.size a)
    (hL : Holds L f lo hi) (h1 : lo ≤ o) (h2 : o + n ≤ hi)
    (x : (Rect.unit (s := S2112x256) ![o, 0] ![n, 256] inb).shape.Idx) :
    (v.readCov L (Rect.unit (s := S2112x256) ![o, 0] ![n, 256] inb).toLoadRect x : EReal) = f (o + (x 0 : ℕ)) (x 1) := by
  refine (congrFun (View.readCov_eq_canon' _ _ _) x).trans ?_
  have hx : (x 0 : ℕ) < n := (x 0).isLt
  refine (hL _ (by show lo ≤ o + 1 * (x 0 : ℕ); omega) (by show o + 1 * (x 0 : ℕ) < hi; omega)).trans ?_
  congr 1
  · show o + 1 * (x 0 : ℕ) = o + (x 0 : ℕ)
    omega
  · exact Fin.ext (by show 0 + 1 * (x 1 : ℕ) = (x 1 : ℕ); omega)

end Cert.PoolIdeal.Pooling
-- ==== Proof.PoolCells.lean ====
module

public import proofs.«01_k».proof.Defs
public import proofs.«01_k».proof.Proof.Gen.PoolIdeal.Value
public import proofs.«01_k».proof.Proof.Gen.PoolRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The pooling: the reference's value at an element, and a stored block of the kernel's -/

namespace Cert.PoolRefIdeal.Pooling

open Cert.PoolRefIdeal Cert.PoolRefIdeal.Gen

/-- `[0, 2048]`-clipped positions. -/
def clip (p : IVec S2048 32) : IVec S2048 32 :=
  minsi (broadcastInDim S2048 ![] bcast_S_S2048 (id (constantI S_ 32 2048#32))) (maxsi (broadcastInDim S2048 ![] bcast_S_S2048 (id (constantI S_ 32 0#32))) p)

/-- Where the window of each position starts, `h` rows above it. -/
def lo (h : BitVec 32) : IVec S2048 32 :=
  clip (subi (iotaInDim S2048 32 0) (broadcastInDim S2048 ![] bcast_S_S2048 (constantI S_ 32 h)))

/-- Where the window of each position ends, `w` rows after its start. -/
def hi (h w : BitVec 32) : IVec S2048 32 :=
  clip (subi (addi (iotaInDim S2048 32 0) (broadcastInDim S2048 ![] bcast_S_S2048 (constantI S_ 32 w))) (broadcastInDim S2048 ![] bcast_S_S2048 (constantI S_ 32 h)))

/-- One group: the masked sum over all positions, divided by the window's length, less the row itself, through the group's matrix. -/
def GRP (lo hi : IVec S2048 32) (U : FVec Ideal S8x2048x256 .f32) (W : FVec Ideal S256x256 .f32) : FVec Ideal S8x2048x256 .f32 :=
  Host.dotGeneral dot_S8x2048x256_S256x256_S8x2048x256_2_0_01_1_n_n none (subf (Host.divf (transpose S8x2048x256 [0, 2, 1] (Host.dotGeneral dot_S8x2048x256_S2048x2048_S8x256x2048_1_1_02_0_n_n none U (uitofp .f32 (andi (cmpi .sle (broadcastInDim S2048x2048 ![0, 1] bcast_S2048x1_S2048x2048_0_1 (broadcastInDim S2048x1 ![0] bcast_S2048_S2048x1_0 lo)) (broadcastInDim S2048x2048 ![0, 1] bcast_S1x2048_S2048x2048_0_1 (broadcastInDim S1x2048 ![1] bcast_S2048_S1x2048_1 (iotaInDim S2048 32 0)))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 hi)))))) transposes_S8x256x2048_S8x2048x256_0_2_1) (broadcastInDim S8x2048x256 ![0, 1, 2] bcast_S1x2048x1_S8x2048x256_0_1_2 (broadcastInDim S1x2048x1 ![1] bcast_S2048_S1x2048x1_1 (sitofp .f32 (subi hi lo))))) U) W

/-- The value at a row and a column of one group, its rows `u`, a column `W` of its matrix and its scale `c`. -/
def cell (h w s : ℕ) (u : Fin 2048 → Fin 256 → EReal) (us : Fin 256 → EReal) (W : Fin 256 → EReal) (c : EReal) : EReal :=
  (∑ k, (Ideal.div (∑ t : Fin 2048, if s ≤ (t : ℕ) + h ∧ (t : ℕ) + h < s + w then u t k else 0)
    (FloatOps.sitofp (F := Ideal) .f32 (BitVec.ofNat 32 (min 2048 (s + w - h) - (s - h)))) - us k) * W k) * c

/-- The window's bounds, its clipped positions and its length, as words. -/
abbrev Words (h w : ℕ) : Prop := ∀ s : Fin 2048,
  IntOp.minsi 2048#32 (IntOp.maxsi 0#32 (IntOp.subi (BitVec.ofNat 32 s) (BitVec.ofNat 32 h))) = BitVec.ofNat 32 (s - h)
  ∧ IntOp.minsi 2048#32 (IntOp.maxsi 0#32 (IntOp.subi (IntOp.addi (BitVec.ofNat 32 s) (BitVec.ofNat 32 w)) (BitVec.ofNat 32 h)))
    = BitVec.ofNat 32 (min 2048 (s + w - h))
  ∧ IntOp.subi (BitVec.ofNat 32 (min 2048 (s + w - h))) (BitVec.ofNat 32 (s - h)) = BitVec.ofNat 32 (min 2048 (s + w - h) - (s - h))
  ∧ IntOp.subi (IntOp.minsi (IntOp.addi (BitVec.ofNat 32 s) (BitVec.ofNat 32 (w - h))) 2048#32)
      (IntOp.maxsi (IntOp.subi (BitVec.ofNat 32 s) (BitVec.ofNat 32 h)) 0#32) = BitVec.ofNat 32 (min 2048 (s + w - h) - (s - h))

theorem words2 : Words 1 2 := by decide +kernel
theorem words4 : Words 2 4 := by decide +kernel
theorem words8 : Words 4 8 := by decide +kernel
theorem words16 : Words 8 16 := by decide +kernel

theorem lo_at (h w : ℕ) (H : Words h w) (s : Fin 2048) : lo (BitVec.ofNat 32 h) (ix1 s) = BitVec.ofNat 32 (s - h) := by
  pointwise [lo, clip]
  exact (H s).1

theorem hi_at (h w : ℕ) (H : Words h w) (s : Fin 2048) :
    hi (BitVec.ofNat 32 h) (BitVec.ofNat 32 w) (ix1 s) = BitVec.ofNat 32 (min 2048 (s + w - h)) := by
  pointwise [hi, clip]
  exact (H s).2.1

/-- A product with a mask keeps the element or gives 0. -/
theorem mask (x : EReal) (p q : Prop) [Decidable p] [Decidable q] :
    x * FloatOps.uitofp (F := Ideal) FTy.f32 (IntOp.andi (BitVec.ofBool (decide p)) (BitVec.ofBool (decide q))) = if p ∧ q then x else 0 := by
  by_cases hp : p <;> by_cases hq : q <;> simp [hp, hq, IntOp.andi, FloatOps.uitofp]

/-- A scaled element of a group of the reference. -/
theorem grp (h w : ℕ) (hh : h ≤ 8) (hw : w ≤ 16) (H : Words h w) (U W) (c : EReal) (b : Fin 8) (s : Fin 2048) (e : Fin 256) :
    (GRP (lo (BitVec.ofNat 32 h)) (hi (BitVec.ofNat 32 h) (BitVec.ofNat 32 w)) U W (ix3 b s e) : EReal) * c
      = cell h w s (fun t k => U (ix3 b t k)) (fun k => U (ix3 b s k)) (fun k => W (ix2 k e)) c := by
  pointwise [GRP]
  have hs := s.isLt
  refine congrArg (· * c) (Finset.sum_congr rfl fun k _ => congrArg (fun v => (v - U (ix3 b s k)) * W (ix2 k e)) ?_)
  rw [lo_at h w H, hi_at h w H, (H s).2.2.1]
  refine congrArg (fun v => Ideal.div v _) (Finset.sum_congr rfl fun t _ => ?_)
  have ht := t.isLt
  rw [WordCmp.cmpi_sle_ofNat (lt_of_le_of_lt (Nat.sub_le _ _) (lt_trans hs (by norm_num))) (lt_trans ht (by norm_num)),
    WordCmp.cmpi_slt_ofNat (lt_trans ht (by norm_num)) (lt_of_le_of_lt (min_le_left _ _) (by norm_num)), mask]
  exact if_congr ⟨fun _ => ⟨by omega, by omega⟩, fun _ => ⟨by omega, by omega⟩⟩ rfl rfl

/-- The columns of group 0. -/
def cols0 (z : FVec Ideal S8x2048x1024 .f32) : FVec Ideal S8x2048x256 .f32 :=
  shapeCast _ (extractStridedSlice S8x2048x1x256 ![0, 0, 0, 0] (shapeCast S8x2048x4x256 z shapeCasts_S8x2048x1024_S8x2048x4x256) slices_S8x2048x4x256_S8x2048x1x256_0_0_0_0) shapeCasts_S8x2048x1x256_S8x2048x256

/-- The matrix of group 0. -/
def mat0 (W : FVec Ideal S1x4x256x256 .f32) : FVec Ideal S256x256 .f32 :=
  shapeCast _ (extractStridedSlice S1x1x256x256 ![0, 0, 0, 0] W slices_S1x4x256x256_S1x1x256x256_0_0_0_0) shapeCasts_S1x1x256x256_S256x256

theorem cols0_at (z) (b : Fin 8) (s : Fin 2048) (e : Fin 256) : cols0 z (ix3 b s e) = z (ix3 b s ⟨0 + (e : ℕ), by omega⟩) := by
  pointwise [cols0]

theorem mat0_at (W) (k e : Fin 256) : mat0 W (ix2 k e) = W (ix4 0 0 k e) := by
  pointwise [mat0]

/-- The columns of group 1. -/
def cols1 (z : FVec Ideal S8x2048x1024 .f32) : FVec Ideal S8x2048x256 .f32 :=
  shapeCast _ (extractStridedSlice S8x2048x1x256 ![0, 0, 1, 0] (shapeCast S8x2048x4x256 z shapeCasts_S8x2048x1024_S8x2048x4x256) slices_S8x2048x4x256_S8x2048x1x256_0_0_1_0) shapeCasts_S8x2048x1x256_S8x2048x256

/-- The matrix of group 1. -/
def mat1 (W : FVec Ideal S1x4x256x256 .f32) : FVec Ideal S256x256 .f32 :=
  shapeCast _ (extractStridedSlice S1x1x256x256 ![0, 1, 0, 0] W slices_S1x4x256x256_S1x1x256x256_0_1_0_0) shapeCasts_S1x1x256x256_S256x256

theorem cols1_at (z) (b : Fin 8) (s : Fin 2048) (e : Fin 256) : cols1 z (ix3 b s e) = z (ix3 b s ⟨256 + (e : ℕ), by omega⟩) := by
  pointwise [cols1]

theorem mat1_at (W) (k e : Fin 256) : mat1 W (ix2 k e) = W (ix4 0 1 k e) := by
  pointwise [mat1]

/-- The columns of group 2. -/
def cols2 (z : FVec Ideal S8x2048x1024 .f32) : FVec Ideal S8x2048x256 .f32 :=
  shapeCast _ (extractStridedSlice S8x2048x1x256 ![0, 0, 2, 0] (shapeCast S8x2048x4x256 z shapeCasts_S8x2048x1024_S8x2048x4x256) slices_S8x2048x4x256_S8x2048x1x256_0_0_2_0) shapeCasts_S8x2048x1x256_S8x2048x256

/-- The matrix of group 2. -/
def mat2 (W : FVec Ideal S1x4x256x256 .f32) : FVec Ideal S256x256 .f32 :=
  shapeCast _ (extractStridedSlice S1x1x256x256 ![0, 2, 0, 0] W slices_S1x4x256x256_S1x1x256x256_0_2_0_0) shapeCasts_S1x1x256x256_S256x256

theorem cols2_at (z) (b : Fin 8) (s : Fin 2048) (e : Fin 256) : cols2 z (ix3 b s e) = z (ix3 b s ⟨512 + (e : ℕ), by omega⟩) := by
  pointwise [cols2]

theorem mat2_at (W) (k e : Fin 256) : mat2 W (ix2 k e) = W (ix4 0 2 k e) := by
  pointwise [mat2]

/-- The columns of group 3. -/
def cols3 (z : FVec Ideal S8x2048x1024 .f32) : FVec Ideal S8x2048x256 .f32 :=
  shapeCast _ (extractStridedSlice S8x2048x1x256 ![0, 0, 3, 0] (shapeCast S8x2048x4x256 z shapeCasts_S8x2048x1024_S8x2048x4x256) slices_S8x2048x4x256_S8x2048x1x256_0_0_3_0) shapeCasts_S8x2048x1x256_S8x2048x256

/-- The matrix of group 3. -/
def mat3 (W : FVec Ideal S1x4x256x256 .f32) : FVec Ideal S256x256 .f32 :=
  shapeCast _ (extractStridedSlice S1x1x256x256 ![0, 3, 0, 0] W slices_S1x4x256x256_S1x1x256x256_0_3_0_0) shapeCasts_S1x1x256x256_S256x256

theorem cols3_at (z) (b : Fin 8) (s : Fin 2048) (e : Fin 256) : cols3 z (ix3 b s e) = z (ix3 b s ⟨768 + (e : ℕ), by omega⟩) := by
  pointwise [cols3]

theorem mat3_at (W) (k e : Fin 256) : mat3 W (ix2 k e) = W (ix4 0 3 k e) := by
  pointwise [mat3]

/-- The four groups side by side, scaled. -/
def FIN (G0 G1 G2 G3 : FVec Ideal S8x2048x256 .f32) (S : FVec Ideal S1x1024 .f32) : FVec Ideal S8x2048x1024 .bf16 :=
  truncf .bf16 (mulf (concatenate S8x2048x1024 2 [⟨S8x2048x256, G0⟩, ⟨S8x2048x256, G1⟩, ⟨S8x2048x256, G2⟩, ⟨S8x2048x256, G3⟩] concatenates_S8x2048x256_S8x2048x256_S8x2048x256_S8x2048x256_S8x2048x1024_d2) (broadcastInDim S8x2048x1024 ![0, 1, 2] bcast_S1x1x1024_S8x2048x1024_0_1_2 (broadcastInDim S1x1x1024 ![2] bcast_S1024_S1x1x1024_2 (shapeCast _ S shapeCasts_S1x1024_S1024)))) bitsLt_bf16_f32

theorem fin0 (G0 G1 G2 G3 S) (b : Fin 8) (s : Fin 2048) (e : Fin 256) : (FIN G0 G1 G2 G3 S (ix3 b s ⟨0 + (e : ℕ), by omega⟩) : EReal) = G0 (ix3 b s e) * S (ix2 0 ⟨0 + (e : ℕ), by omega⟩) := by
  pointwise [FIN]

theorem fin1 (G0 G1 G2 G3 S) (b : Fin 8) (s : Fin 2048) (e : Fin 256) : (FIN G0 G1 G2 G3 S (ix3 b s ⟨256 + (e : ℕ), by omega⟩) : EReal) = G1 (ix3 b s e) * S (ix2 0 ⟨256 + (e : ℕ), by omega⟩) := by
  pointwise [FIN]

theorem fin2 (G0 G1 G2 G3 S) (b : Fin 8) (s : Fin 2048) (e : Fin 256) : (FIN G0 G1 G2 G3 S (ix3 b s ⟨512 + (e : ℕ), by omega⟩) : EReal) = G2 (ix3 b s e) * S (ix2 0 ⟨512 + (e : ℕ), by omega⟩) := by
  pointwise [FIN]
  rw [dif_neg (by omega), dif_neg (by omega), dif_pos (by omega)]
  exact congrArg (fun i => G2 (ix3 b s i) * S (ix2 0 ⟨512 + (e : ℕ), by omega⟩)) (Fin.ext (by show 512 + (e : ℕ) - 256 - 256 = e; omega))

theorem fin3 (G0 G1 G2 G3 S) (b : Fin 8) (s : Fin 2048) (e : Fin 256) : (FIN G0 G1 G2 G3 S (ix3 b s ⟨768 + (e : ℕ), by omega⟩) : EReal) = G3 (ix3 b s e) * S (ix2 0 ⟨768 + (e : ℕ), by omega⟩) := by
  pointwise [FIN]
  rw [dif_neg (by omega), dif_neg (by omega), dif_neg (by omega)]
  exact congrArg (fun i => G3 (ix3 b s i) * S (ix2 0 ⟨768 + (e : ℕ), by omega⟩)) (Fin.ext (by show 768 + (e : ℕ) - 256 - 256 - 256 = e; omega))

/-- The reference's result. -/
def RES (z : FVec Ideal S8x2048x1024 .f32) (W : FVec Ideal S1x4x256x256 .f32) (S : FVec Ideal S1x1024 .f32) : FVec Ideal S8x2048x1024 .bf16 :=
  FIN (GRP (lo 1#32) (hi 1#32 2#32) (cols0 z) (mat0 W)) (GRP (lo 2#32) (hi 2#32 4#32) (cols1 z) (mat1 W))
    (GRP (lo 4#32) (hi 4#32 8#32) (cols2 z) (mat2 W)) (GRP (lo 8#32) (hi 8#32 16#32) (cols3 z) (mat3 W)) S

variable (z : FVec Ideal S8x2048x1024 .f32) (W : FVec Ideal S1x4x256x256 .f32) (S : FVec Ideal S1x1024 .f32)

/-- The reference's element in a column of group 0. -/
theorem res0 (b : Fin 8) (s : Fin 2048) (e : Fin 256) : (RES z W S (ix3 b s ⟨0 + (e : ℕ), by omega⟩) : EReal)
    = cell 1 2 s (fun t k => z (ix3 b t ⟨0 + (k : ℕ), by omega⟩)) (fun k => z (ix3 b s ⟨0 + (k : ℕ), by omega⟩))
      (fun k => W (ix4 0 0 k e)) (S (ix2 0 ⟨0 + (e : ℕ), by omega⟩)) := by
  refine (fin0 _ _ _ _ _ b s e).trans ((grp 1 2 (by omega) (by omega) words2 _ _ _ b s e).trans ?_)
  simp only [cols0_at, mat0_at]

/-- The reference's element in a column of group 1. -/
theorem res1 (b : Fin 8) (s : Fin 2048) (e : Fin 256) : (RES z W S (ix3 b s ⟨256 + (e : ℕ), by omega⟩) : EReal)
    = cell 2 4 s (fun t k => z (ix3 b t ⟨256 + (k : ℕ), by omega⟩)) (fun k => z (ix3 b s ⟨256 + (k : ℕ), by omega⟩))
      (fun k => W (ix4 0 1 k e)) (S (ix2 0 ⟨256 + (e : ℕ), by omega⟩)) := by
  refine (fin1 _ _ _ _ _ b s e).trans ((grp 2 4 (by omega) (by omega) words4 _ _ _ b s e).trans ?_)
  simp only [cols1_at, mat1_at]

/-- The reference's element in a column of group 2. -/
theorem res2 (b : Fin 8) (s : Fin 2048) (e : Fin 256) : (RES z W S (ix3 b s ⟨512 + (e : ℕ), by omega⟩) : EReal)
    = cell 4 8 s (fun t k => z (ix3 b t ⟨512 + (k : ℕ), by omega⟩)) (fun k => z (ix3 b s ⟨512 + (k : ℕ), by omega⟩))
      (fun k => W (ix4 0 2 k e)) (S (ix2 0 ⟨512 + (e : ℕ), by omega⟩)) := by
  refine (fin2 _ _ _ _ _ b s e).trans ((grp 4 8 (by omega) (by omega) words8 _ _ _ b s e).trans ?_)
  simp only [cols2_at, mat2_at]

/-- The reference's element in a column of group 3. -/
theorem res3 (b : Fin 8) (s : Fin 2048) (e : Fin 256) : (RES z W S (ix3 b s ⟨768 + (e : ℕ), by omega⟩) : EReal)
    = cell 8 16 s (fun t k => z (ix3 b t ⟨768 + (k : ℕ), by omega⟩)) (fun k => z (ix3 b s ⟨768 + (k : ℕ), by omega⟩))
      (fun k => W (ix4 0 3 k e)) (S (ix2 0 ⟨768 + (e : ℕ), by omega⟩)) := by
  refine (fin3 _ _ _ _ _ b s e).trans ((grp 8 16 (by omega) (by omega) words16 _ _ _ b s e).trans ?_)
  simp only [cols3_at, mat3_at]

open Idealize.ShloMosaic.StableHlo Cert.PoolRefIdeal.Value in
/-- The reference's computed term is `RES` of its arguments. -/
theorem run_res (V0 : Valuation τ sig (Elt Ideal)) (a0 : FVec Ideal S8x2048x1024 .f32) (a1 : FVec Ideal S1x4x256x256 .f32) (a2 : FVec Ideal S1x1024 .f32)
    (e0 : V0 (Proc.devRef .tc main_arg0) = a0) (e1 : V0 (Proc.devRef .tc main_arg1) = a1) (e2 : V0 (Proc.devRef .tc main_arg2) = a2) :
    truncf .bf16 (mulf (res_main_v142 V0) (broadcastInDim S8x2048x1024 ![0, 1, 2] bcast_S1x1x1024_S8x2048x1024_0_1_2
      (broadcastInDim S1x1x1024 ![2] bcast_S1024_S1x1x1024_2 (shapeCast _ a2 shapeCasts_S1x1024_S1024)))) bitsLt_bf16_f32 = RES a0 a1 a2 := by
  subst e0 e1 e2
  unfold RES FIN
  refine congrArg (fun v => truncf .bf16 (mulf v _) _) ?_
  unfold res_main_v142
  unfold GRP lo hi clip cols0 cols1 cols2 cols3 mat0 mat1 mat2 mat3
  unfold res_main_v114 res_main_v109 res_main_v79 res_main_v74 res_main_v44 res_main_v39 res_main_v9 res_main_v4 res_main_v1 res_main_v0
  rfl

end Cert.PoolRefIdeal.Pooling

namespace Cert.PoolIdeal.Pooling

open Cert.PoolIdeal Cert.PoolIdeal.Gen

/-- One block of 256 rows of one group: from the two halves of the window's total. -/
def K (r0 a b : BitVec 32) (T1 T2 : FVec Ideal S256x256 .f32) (U W : FVec Ideal S1x256x256 .f32) (S : FVec Ideal S1x256 .f32) : FVec Ideal S1x256x256 .bf16 :=
  shapeCast S1x256x256 (truncf .bf16 (mulf (matmul dot_S256x256_S256x256_S256x256_1_0_0_1_n_n none
    (truncf .bf16 (subf (divf (addf T1 T2) (broadcastTo S256x256 (sitofp .f32 (subi
      (minsi (addi (addi (broadcast S256x1 r0) (iota .tc S256x1 32 [0] iota_S256x1_d0_w32)) (broadcast S256x1 b)) (broadcast S256x1 2048#32))
      (maxsi (subi (addi (broadcast S256x1 r0) (iota .tc S256x1 32 [0] iota_S256x1_d0_w32)) (broadcast S256x1 a)) (broadcast S256x1 0#32)))) broadcasts_S256x1_S256x256))
      (shapeCast S256x256 U shapeCasts_S1x256x256_S256x256)) bitsLt_bf16_f32)
    (truncf .bf16 (shapeCast S256x256 W shapeCasts_S1x256x256_S256x256) bitsLt_bf16_f32) (constant S256x256 .f32 0x00000000#32))
    (broadcastTo S256x256 (shapeCast S1x256 S shapeCasts_S1x256_S1x256) broadcasts_S1x256_S256x256)) bitsLt_bf16_f32) shapeCasts_S256x256_S1x256x256

/-- An element of a block, from the total of its window. -/
theorem k_at (h w r0 : ℕ) (hr : r0 + 256 ≤ 2048) (H : Cert.PoolRefIdeal.Pooling.Words h w) (T1 T2 : FVec Ideal S256x256 .f32) (U W : FVec Ideal S1x256x256 .f32) (S : FVec Ideal S1x256 .f32)
    (u : Fin 2048 → Fin 256 → EReal) (hT : ∀ (x : Fin 256) (k : Fin 256), T1 (ix2 x k) + T2 (ix2 x k) = ∑ t : Fin 2048, if r0 + (x : ℕ) ≤ (t : ℕ) + h ∧ (t : ℕ) + h < r0 + (x : ℕ) + w then u t k else 0)
    (x : S1x256x256.Idx) : (K (BitVec.ofNat 32 r0) (BitVec.ofNat 32 h) (BitVec.ofNat 32 (w - h)) T1 T2 U W S x : EReal)
      = Cert.PoolRefIdeal.Pooling.cell h w (r0 + (x 1 : ℕ)) u (fun k => U (ix3 0 (x 1) k)) (fun k => W (ix3 0 k (x 2))) (S (ix2 0 (x 2))) := by
  have hx : (x 1 : ℕ) < 256 := (x 1).isLt
  pointwise [K]
  refine congrArg (· * S (ix2 0 (x 2))) (Finset.sum_congr rfl fun k _ => congrArg (fun v => (v - U (ix3 0 (x 1) k)) * W (ix3 0 k (x 2))) ?_)
  refine congrArg₂ Ideal.div (hT (x 1) k) (congrArg (FloatOps.sitofp (F := Ideal) .f32) ?_)
  have e : IntOp.addi (BitVec.ofNat 32 r0) (BitVec.ofNat 32 (x 1 : ℕ)) = BitVec.ofNat 32 (r0 + (x 1 : ℕ)) := (BitVec.ofNat_add _ _).symm
  rw [e]
  exact (H ⟨r0 + (x 1 : ℕ), by omega⟩).2.2.2

end Cert.PoolIdeal.Pooling
-- ==== Proof.PoolValue.lean ====
module

public import proofs.«01_k».proof.Defs
public import proofs.«01_k».proof.Proof.Gen.PoolIdeal.Value
public import proofs.«01_k».proof.Proof.Gen.PoolRefIdeal.Run
public import proofs.«01_k».proof.Proof.PoolPure
public import proofs.«01_k».proof.Proof.PoolCells
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The pooling: what the scratch buffers hold level by level, and the stored blocks against the reference -/

namespace Cert.PoolIdeal.Pooling

open Cert.PoolIdeal Cert.PoolIdeal.Gen
open Cert.PoolRefIdeal.Pooling (cell Words words2 words4 words8 words16 RES res0 res1 res2 res3)

/-- A list of stores into a scratch buffer. -/
abbrev Stores := List (View.Piece (Elt Ideal) S2112x256 .f32)

/-- Rows from `o`, `n` of them, lie in the buffer. -/
abbrev Inb (o n : ℕ) : Prop := ∀ a, (![o, 0] : Fin 2 → ℕ) a + (![n, 256] : Fin 2 → ℕ) a ≤ S2112x256.size a

/-- The values of a block of `n` rows from row `o`. -/
abbrev Block (o n : ℕ) (inb : Inb o n) := (Rect.unit (s := S2112x256) ![o, 0] ![n, 256] inb).shape.Idx → Elt Ideal .f32

/-- The rows in the middle, zeros on both sides. -/
theorem base {L : Stores} {i0 : Inb 32 2048} {i1 : Inb 2080 32} {i2 : Inb 0 32} (u : Fin 2048 → Fin 256 → EReal)
    (w0 : Block 32 2048 i0) (w1 : Block 2080 32 i1) (w2 : Block 0 32 i2)
    (h0 : ∀ x : S2048x256.Idx, (w0 x : EReal) = u (x 0) (x 1)) (h1 : ∀ x : S32x256.Idx, (w1 x : EReal) = 0) (h2 : ∀ x : S32x256.Idx, (w2 x : EReal) = 0) :
    Holds (⟨Rect.unit (s := S2112x256) ![32, 0] ![2048, 256] i0, w0⟩ :: ⟨Rect.unit (s := S2112x256) ![2080, 0] ![32, 256] i1, w1⟩
      :: ⟨Rect.unit (s := S2112x256) ![0, 0] ![32, 256] i2, w2⟩ :: L) (pad u) 0 2112 := by
  intro y _ hy
  refine push i0 w0 y (fun x => (h0 x).trans ?_) fun a => push i1 w1 y (fun x => (h1 x).trans ?_) fun b =>
    push i2 w2 y (fun x => (h2 x).trans ?_) fun c => ?_
  · have hx : (x 0 : ℕ) < 2048 := (x 0).isLt
    refine Eq.trans ?_ (pad_mid u (32 + (x 0 : ℕ)) (x 1) (by omega) (by omega)).symm
    exact congrArg (fun i => u i (x 1)) (Fin.ext (by show (x 0 : ℕ) = 32 + (x 0 : ℕ) - 32; omega))
  · exact (pad_out u (2080 + (x 0 : ℕ)) (x 1) (by omega)).symm
  · have hx : (x 0 : ℕ) < 32 := (x 0).isLt
    exact (pad_out u (0 + (x 0 : ℕ)) (x 1) (by omega)).symm
  · omega

/-- One more block of a level: it extends the rows the buffer holds. -/
theorem grow {A L : Stores} {f : ℕ → Fin 256 → EReal} {d e lo la ha r n o1 o2 : ℕ} {κ : Kind} {sp : Space} (v : View sig κ sp S2112x256 .f32)
    {i : Inb r n} {i1 : Inb o1 n} {i2 : Inb o2 n} (w : Block r n i)
    (hA : Holds A f la ha)
    (hw : ∀ x : (Rect.unit (s := S2112x256) ![r, 0] ![n, 256] i).shape.Idx, (w x : EReal) = (v.readCov A (Rect.unit (s := S2112x256) ![o1, 0] ![n, 256] i1).toLoadRect x : EReal)
      + (v.readCov A (Rect.unit (s := S2112x256) ![o2, 0] ![n, 256] i2).toLoadRect x : EReal))
    (ho1 : o1 + d = r) (ho2 : o2 = r + e) (h1 : la ≤ o1) (h2 : o1 + n ≤ ha) (h3 : la ≤ o2) (h4 : o2 + n ≤ ha)
    (hL : Holds L (step d e f) lo r) :
    Holds (⟨Rect.unit (s := S2112x256) ![r, 0] ![n, 256] i, w⟩ :: L) (step d e f) lo (r + n) := by
  intro y hy hy'
  refine push i w y (fun x => (hw x).trans ?_) fun a => hL y hy (by omega)
  refine congrArg₂ (· + ·) ((load v i1 hA h1 h2 x).trans ?_) ((load v i2 hA h3 h4 x).trans ?_)
  · exact congrArg (fun k => f k (x 1)) (by show o1 + (x 0 : ℕ) = r + (x 0 : ℕ) - d; omega)
  · exact congrArg (fun k => f k (x 1)) (by show o2 + (x 0 : ℕ) = r + (x 0 : ℕ) + e; omega)

/-- An empty run of rows. -/
theorem none (L : Stores) (f : ℕ → Fin 256 → EReal) (r : ℕ) : Holds L f r r := fun y h h' => absurd h' (by omega)

/-- A level: nine blocks, each the sum of two shifted blocks of the other buffer. -/
theorem level (m d e n : ℕ) {A L : Stores} {f : ℕ → Fin 256 → EReal} {la ha : ℕ} {κ : Kind} {sp : Space} (v : View sig κ sp S2112x256 .f32)
    {i0 : Inb m 256} {p0 : Inb (m + 0 - d) 256} {q0 : Inb (m + 0 + e) 256} {w0 : Block m 256 i0}
    {i1 : Inb (m + 256) 256} {p1 : Inb (m + 256 - d) 256} {q1 : Inb (m + 256 + e) 256} {w1 : Block (m + 256) 256 i1}
    {i2 : Inb (m + 512) 256} {p2 : Inb (m + 512 - d) 256} {q2 : Inb (m + 512 + e) 256} {w2 : Block (m + 512) 256 i2}
    {i3 : Inb (m + 768) 256} {p3 : Inb (m + 768 - d) 256} {q3 : Inb (m + 768 + e) 256} {w3 : Block (m + 768) 256 i3}
    {i4 : Inb (m + 1024) 256} {p4 : Inb (m + 1024 - d) 256} {q4 : Inb (m + 1024 + e) 256} {w4 : Block (m + 1024) 256 i4}
    {i5 : Inb (m + 1280) 256} {p5 : Inb (m + 1280 - d) 256} {q5 : Inb (m + 1280 + e) 256} {w5 : Block (m + 1280) 256 i5}
    {i6 : Inb (m + 1536) 256} {p6 : Inb (m + 1536 - d) 256} {q6 : Inb (m + 1536 + e) 256} {w6 : Block (m + 1536) 256 i6}
    {i7 : Inb (m + 1792) 256} {p7 : Inb (m + 1792 - d) 256} {q7 : Inb (m + 1792 + e) 256} {w7 : Block (m + 1792) 256 i7}
    {i8 : Inb (m + 2048) n} {p8 : Inb (m + 2048 - d) n} {q8 : Inb (m + 2048 + e) n} {w8 : Block (m + 2048) n i8}
    (hA : Holds A f la ha) (hd : la + d ≤ m) (hn : n ≤ 256) (he : m + 2048 + n + e ≤ ha)
    (h0 : ∀ x : (Rect.unit (s := S2112x256) ![m, 0] ![256, 256] i0).shape.Idx, (w0 x : EReal)
      = (v.readCov A (Rect.unit (s := S2112x256) ![m + 0 - d, 0] ![256, 256] p0).toLoadRect x : EReal)
        + (v.readCov A (Rect.unit (s := S2112x256) ![m + 0 + e, 0] ![256, 256] q0).toLoadRect x : EReal))
    (h1 : ∀ x : (Rect.unit (s := S2112x256) ![(m + 256), 0] ![256, 256] i1).shape.Idx, (w1 x : EReal)
      = (v.readCov A (Rect.unit (s := S2112x256) ![m + 256 - d, 0] ![256, 256] p1).toLoadRect x : EReal)
        + (v.readCov A (Rect.unit (s := S2112x256) ![m + 256 + e, 0] ![256, 256] q1).toLoadRect x : EReal))
    (h2 : ∀ x : (Rect.unit (s := S2112x256) ![(m + 512), 0] ![256, 256] i2).shape.Idx, (w2 x : EReal)
      = (v.readCov A (Rect.unit (s := S2112x256) ![m + 512 - d, 0] ![256, 256] p2).toLoadRect x : EReal)
        + (v.readCov A (Rect.unit (s := S2112x256) ![m + 512 + e, 0] ![256, 256] q2).toLoadRect x : EReal))
    (h3 : ∀ x : (Rect.unit (s := S2112x256) ![(m + 768), 0] ![256, 256] i3).shape.Idx, (w3 x : EReal)
      = (v.readCov A (Rect.unit (s := S2112x256) ![m + 768 - d, 0] ![256, 256] p3).toLoadRect x : EReal)
        + (v.readCov A (Rect.unit (s := S2112x256) ![m + 768 + e, 0] ![256, 256] q3).toLoadRect x : EReal))
    (h4 : ∀ x : (Rect.unit (s := S2112x256) ![(m + 1024), 0] ![256, 256] i4).shape.Idx, (w4 x : EReal)
      = (v.readCov A (Rect.unit (s := S2112x256) ![m + 1024 - d, 0] ![256, 256] p4).toLoadRect x : EReal)
        + (v.readCov A (Rect.unit (s := S2112x256) ![m + 1024 + e, 0] ![256, 256] q4).toLoadRect x : EReal))
    (h5 : ∀ x : (Rect.unit (s := S2112x256) ![(m + 1280), 0] ![256, 256] i5).shape.Idx, (w5 x : EReal)
      = (v.readCov A (Rect.unit (s := S2112x256) ![m + 1280 - d, 0] ![256, 256] p5).toLoadRect x : EReal)
        + (v.readCov A (Rect.unit (s := S2112x256) ![m + 1280 + e, 0] ![256, 256] q5).toLoadRect x : EReal))
    (h6 : ∀ x : (Rect.unit (s := S2112x256) ![(m + 1536), 0] ![256, 256] i6).shape.Idx, (w6 x : EReal)
      = (v.readCov A (Rect.unit (s := S2112x256) ![m + 1536 - d, 0] ![256, 256] p6).toLoadRect x : EReal)
        + (v.readCov A (Rect.unit (s := S2112x256) ![m + 1536 + e, 0] ![256, 256] q6).toLoadRect x : EReal))
    (h7 : ∀ x : (Rect.unit (s := S2112x256) ![(m + 1792), 0] ![256, 256] i7).shape.Idx, (w7 x : EReal)
      = (v.readCov A (Rect.unit (s := S2112x256) ![m + 1792 - d, 0] ![256, 256] p7).toLoadRect x : EReal)
        + (v.readCov A (Rect.unit (s := S2112x256) ![m + 1792 + e, 0] ![256, 256] q7).toLoadRect x : EReal))
    (h8 : ∀ x : (Rect.unit (s := S2112x256) ![(m + 2048), 0] ![n, 256] i8).shape.Idx, (w8 x : EReal)
      = (v.readCov A (Rect.unit (s := S2112x256) ![m + 2048 - d, 0] ![n, 256] p8).toLoadRect x : EReal)
        + (v.readCov A (Rect.unit (s := S2112x256) ![m + 2048 + e, 0] ![n, 256] q8).toLoadRect x : EReal))
    : Holds (⟨Rect.unit (s := S2112x256) ![(m + 2048), 0] ![n, 256] i8, w8⟩
      :: ⟨Rect.unit (s := S2112x256) ![(m + 1792), 0] ![256, 256] i7, w7⟩
      :: ⟨Rect.unit (s := S2112x256) ![(m + 1536), 0] ![256, 256] i6, w6⟩
      :: ⟨Rect.unit (s := S2112x256) ![(m + 1280), 0] ![256, 256] i5, w5⟩
      :: ⟨Rect.unit (s := S2112x256) ![(m + 1024), 0] ![256, 256] i4, w4⟩
      :: ⟨Rect.unit (s := S2112x256) ![(m + 768), 0] ![256, 256] i3, w3⟩
      :: ⟨Rect.unit (s := S2112x256) ![(m + 512), 0] ![256, 256] i2, w2⟩
      :: ⟨Rect.unit (s := S2112x256) ![(m + 256), 0] ![256, 256] i1, w1⟩
      :: ⟨Rect.unit (s := S2112x256) ![m, 0] ![256, 256] i0, w0⟩ :: L) (step d e f) m (m + 2048 + n) := by
  have g := none L (step d e f) m
  replace g := grow (e := e) (d := d) v w0 hA h0 (by omega) (by omega) (by omega) (by omega) (by omega) (by omega) g
  replace g := grow (e := e) (d := d) v w1 hA h1 (by omega) (by omega) (by omega) (by omega) (by omega) (by omega) g
  replace g := grow (e := e) (d := d) v w2 hA h2 (by omega) (by omega) (by omega) (by omega) (by omega) (by omega) g
  replace g := grow (e := e) (d := d) v w3 hA h3 (by omega) (by omega) (by omega) (by omega) (by omega) (by omega) g
  replace g := grow (e := e) (d := d) v w4 hA h4 (by omega) (by omega) (by omega) (by omega) (by omega) (by omega) g
  replace g := grow (e := e) (d := d) v w5 hA h5 (by omega) (by omega) (by omega) (by omega) (by omega) (by omega) g
  replace g := grow (e := e) (d := d) v w6 hA h6 (by omega) (by omega) (by omega) (by omega) (by omega) (by omega) g
  replace g := grow (e := e) (d := d) v w7 hA h7 (by omega) (by omega) (by omega) (by omega) (by omega) (by omega) g
  replace g := grow (e := e) (d := d) v w8 hA h8 (by omega) (by omega) (by omega) (by omega) (by omega) (by omega) g
  exact g

/-- A stored sum, cell by cell. -/
theorem add_at {s : Shape} (a b : FVec Ideal s .f32) (h : s.ShapeCasts s) (x : s.Idx) : (shapeCast s (addf a b) h x : EReal) = a x + b x := by
  rw [shapeCast_self]
  rfl

variable (m : (ℓ : Loc nD τ sig) → Buf (Elt Ideal) ℓ)

/-- Which block each grid point reads and writes. -/
theorem idx : ∀ t : Fin cfg0.N, win0_0.index t = ![t.val, 0, 0] ∧ win0_1.index t = ![0, 0, 0]
    ∧ win0_2.index t = ![0, 0] ∧ win0_3.index t = ![t.val, 0, 0] :=
  (by decide +kernel : ∀ t : Fin grid0.N, _)

/-- The sequences. -/
abbrev z (c : Dev nD) : FVec Ideal S8x2048x1024 .f32 := m ((c : Thread nD τ).loc main_arg0)
/-- The four matrices. -/
abbrev W (c : Dev nD) : FVec Ideal S1x4x256x256 .f32 := m ((c : Thread nD τ).loc main_arg1)
/-- The scale. -/
abbrev S (c : Dev nD) : FVec Ideal S1x1024 .f32 := m ((c : Thread nD τ).loc main_arg2)

/-- The rows of one group of columns at a grid point. -/
def rows (c : Dev nD) (t : Fin cfg0.N) (q : ℕ) (hq : q + 256 ≤ 1024) (r : Fin 2048) (k : Fin 256) : EReal :=
  z m c (ix3 ⟨t.val, t.isLt⟩ r ⟨q + (k : ℕ), by omega⟩)

/-- A loaded block of rows of one group. -/
theorem rows_of (c : Dev nD) (t : Fin cfg0.N) (o n q : ℕ) (hq : q + 256 ≤ 1024) (ho : o + n ≤ 2048) (inb) (s : Fin n) (k : Fin 256) :
    (View.ld (Val := Elt Ideal) (S := S1x2048x1024) (e' := .f32) (iblk m c 0 t) (Rect.unit ![0, o, q] ![1, n, 256] inb) : FVec Ideal ⟨3, ![1, n, 256]⟩ .f32) (ix3 0 s k)
      = rows m c t q hq ⟨o + (s : ℕ), by omega⟩ k := by
  have ht : t.val < 8 := t.isLt
  refine (View.ld_unit_apply_of _ _ _ inb (ix3 0 s k) (ix3 0 ⟨o + (s : ℕ), by omega⟩ ⟨q + (k : ℕ), by omega⟩) (fun a => by fin_cases a <;> simp)).trans ?_
  unfold rows
  blk_point [iblk, V, idx t]

/-- A group's block of the matrices. -/
theorem mat_of (c : Dev nD) (t : Fin cfg0.N) (g : Fin 4) (g' : ℕ) (hg : g' = g.val) (inb) (k e : Fin 256) :
    (View.ld (Val := Elt Ideal) (S := S4x256x256) (e' := .f32) (iblk m c 1 t) (Rect.unit ![g', 0, 0] ![1, 256, 256] inb) : FVec Ideal S1x256x256 .f32) (ix3 0 k e)
      = W m c (ix4 0 g k e) := by
  subst hg
  refine (View.ld_unit_apply_of _ _ _ inb (ix3 0 k e) (ix3 g k e) (fun a => by fin_cases a <;> simp)).trans ?_
  blk_point [iblk, V, idx t]

/-- A group's part of the scale. -/
theorem scale_of (c : Dev nD) (t : Fin cfg0.N) (q : ℕ) (hq : q + 256 ≤ 1024) (inb) (e : Fin 256) :
    (View.ld (Val := Elt Ideal) (S := S1x1024) (e' := .f32) (iblk m c 2 t) (Rect.unit ![0, q] ![1, 256] inb) : FVec Ideal S1x256 .f32) (ix2 0 e)
      = S m c (ix2 0 ⟨q + (e : ℕ), by omega⟩) := by
  refine (View.ld_unit_apply_of _ _ _ inb (ix2 0 e) (ix2 0 ⟨q + (e : ℕ), by omega⟩) (fun a => by fin_cases a <;> simp)).trans ?_
  blk_point [iblk, V, idx t]

/-- The reference's value at a row and a column of one group. -/
abbrev Res (c : Dev nD) (h w q : ℕ) (g : Fin 4) (hq : q + 256 ≤ 1024) : Prop := ∀ (b : Fin 8) (s : Fin 2048) (e : Fin 256),
  (RES (z m c) (W m c) (S m c) (ix3 b s ⟨q + (e : ℕ), by omega⟩) : EReal)
    = cell h w s (fun t k => z m c (ix3 b t ⟨q + (k : ℕ), by omega⟩)) (fun k => z m c (ix3 b s ⟨q + (k : ℕ), by omega⟩))
      (fun k => W m c (ix4 0 g k e)) (S m c (ix2 0 ⟨q + (e : ℕ), by omega⟩))

/-- One stored block of one group is the reference's. -/
theorem piece (c : Dev nD) (t : Fin cfg0.N) (h w q : ℕ) (g : Fin 4) (hq : q + 256 ≤ 1024) (d e : ℕ) (f : ℕ → Fin 256 → EReal) {la ha r0 o1 o2 g' : ℕ}
    {κ : Kind} {sp : Space} (v : View sig κ sp S2112x256 .f32) {A : Stores}
    {p1 : Inb o1 256} {p2 : Inb o2 256} {u1 w1 s1}
    (hres : Res m c h w q g hq) (H : Words h w) (hh : h ≤ 8) (hw : w ≤ 16)
    (htree : ∀ r j, h ≤ r → step d e f r j = win h w (pad (rows m c t q hq)) r j)
    (hA : Holds A f la ha) (hr : r0 + 256 ≤ 2048) (hg : g' = g.val) (ho1 : o1 + d = 32 + r0) (ho2 : o2 = 32 + r0 + e)
    (h1 : la ≤ o1) (h2 : o1 + 256 ≤ ha) (h3 : la ≤ o2) (h4 : o2 + 256 ≤ ha)
    (x : S1x256x256.Idx) (i : S8x2048x1024.Idx) (i0 : (i 0 : ℕ) = t.val) (i1 : (i 1 : ℕ) = r0 + (x 1 : ℕ)) (i2 : (i 2 : ℕ) = q + (x 2 : ℕ)) :
    (K (BitVec.ofNat 32 r0) (BitVec.ofNat 32 h) (BitVec.ofNat 32 (w - h))
      (v.readCov A (Rect.unit (s := S2112x256) ![o1, 0] ![256, 256] p1).toLoadRect)
      (v.readCov A (Rect.unit (s := S2112x256) ![o2, 0] ![256, 256] p2).toLoadRect)
      (View.ld (Val := Elt Ideal) (S := S1x2048x1024) (e' := .f32) (iblk m c 0 t) (Rect.unit ![0, r0, q] ![1, 256, 256] u1))
      (View.ld (Val := Elt Ideal) (S := S4x256x256) (e' := .f32) (iblk m c 1 t) (Rect.unit ![g', 0, 0] ![1, 256, 256] w1))
      (View.ld (Val := Elt Ideal) (S := S1x1024) (e' := .f32) (iblk m c 2 t) (Rect.unit ![0, q] ![1, 256] s1)) x : EReal)
      = RES (z m c) (W m c) (S m c) i := by
  have ht : t.val < 8 := t.isLt
  have hx1 : (x 1 : ℕ) < 256 := (x 1).isLt
  have hx2 : (x 2 : ℕ) < 256 := (x 2).isLt
  have hi : i = ix3 ⟨t.val, ht⟩ ⟨r0 + (x 1 : ℕ), by omega⟩ ⟨q + (x 2 : ℕ), by omega⟩ :=
    (eq_ix3 i).trans (by rw [show i 0 = ⟨t.val, ht⟩ from Fin.ext i0, show i 1 = ⟨r0 + (x 1 : ℕ), by omega⟩ from Fin.ext i1, show i 2 = ⟨q + (x 2 : ℕ), by omega⟩ from Fin.ext i2]; rfl)
  refine (k_at h w r0 hr H _ _ _ _ _ (rows m c t q hq) (fun a k => ?_) x).trans (Eq.trans ?_ ((congrArg (RES (z m c) (W m c) (S m c)) hi).trans (hres ⟨t.val, ht⟩ ⟨r0 + (x 1 : ℕ), by omega⟩ (x 2))).symm)
  · refine Eq.trans ?_ ((htree (32 + (r0 + (a : ℕ))) k (by omega)).trans (win_pad _ h w (r0 + (a : ℕ)) k (by omega) (by omega) (by omega)))
    refine congrArg₂ (· + ·) ((load v p1 hA h1 h2 (ix2 a k)).trans ?_) ((load v p2 hA h3 h4 (ix2 a k)).trans ?_)
    · exact congrArg (fun j => f j k) (by show o1 + (a : ℕ) = 32 + (r0 + (a : ℕ)) - d; omega)
    · exact congrArg (fun j => f j k) (by show o2 + (a : ℕ) = 32 + (r0 + (a : ℕ)) + e; omega)
  · congr 1
    · funext k
      exact rows_of m c t r0 256 q hq hr _ (x 1) k
    · funext k
      exact mat_of m c t g g' hg _ k (x 2)
    · exact scale_of m c t q hq _ (x 2)

/-- The middle rows' values. -/
theorem mid_at (u : FVec Ideal S1x2048x256 .f32) (h h') (x : S2048x256.Idx) :
    (shapeCast S2048x256 (shapeCast S2048x256 u h) h' x : EReal) = u (ix3 0 (x 0) (x 1)) := by
  pointwise

/-- The margins' values. -/
theorem zero_at (x : S32x256.Idx) : (shapeCast S32x256 (broadcast S32x256 (Scalar.ofBits (F := Ideal) .f32 0x00000000#32)) shapeCasts_S32x256_S32x256 x : EReal) = 0 := by
  pointwise

/-- The middle rows, read from the sequence's block. -/
theorem mid_of (c : Dev nD) (t : Fin cfg0.N) (q : ℕ) (hq : q + 256 ≤ 1024) (inb h h') (x : S2048x256.Idx) :
    (shapeCast S2048x256 (shapeCast S2048x256 (View.ld (Val := Elt Ideal) (S := S1x2048x1024) (e' := .f32) (iblk m c 0 t)
      (Rect.unit ![0, 0, q] ![1, 2048, 256] inb) : FVec Ideal S1x2048x256 .f32) h) h' x : EReal) = rows m c t q hq (x 0) (x 1) := by
  have hx : (x 0 : ℕ) < 2048 := (x 0).isLt
  refine (mid_at _ _ _ x).trans ((rows_of m c t 0 2048 q hq (by omega) inb (x 0) (x 1)).trans ?_)
  exact congrArg (fun i => rows m c t q hq i (x 1)) (Fin.ext (by show 0 + (x 0 : ℕ) = (x 0 : ℕ); omega))

set_option maxHeartbeats 1600000 in
/-- After the run the result array holds the reference's. -/
theorem final (c : Dev nD) : (dats m 0 c).arrAt 3 (cfgs 0).N = RES (z m c) (W m c) (S m c) := by
  refine (dats m 0 c).arrAt_eq_of_covers 3 _ (by decide +kernel) fun t _ y => ?_
  have ht : t.val < 8 := t.isLt
  blk_simp
  rw [after0_3]
  unfold outsAt0 out0_A_3
  frame_out
  canon_tiles x h
  case piece31 | piece30 | piece29 | piece28 | piece27 | piece26 | piece25 | piece24 =>
    refine piece (la := 0) (ha := 2112) m c t 1 2 0 0 (by omega) 1 0 (pad (rows m c t 0 (by omega))) (View.whole cc0_scratch0) (res0 _ _ _) words2 (by omega) (by omega)
      (fun r j hr => tree2 _ r j hr) ?_ ?_ rfl ?_ ?_ ?_ ?_ ?_ ?_ x _ ?_ ?_ ?_
    rotate_left
    iterate 7 omega
    iterate 3 (blk_simp [idx t]; try omega)
    refine base (rows m c t 0 (by omega)) _ _ _ ?_ (fun x => zero_at x) (fun x => zero_at x)
    intro x
    exact mid_of m c t 0 _ _ _ _ x
  case piece23 | piece22 | piece21 | piece20 | piece19 | piece18 | piece17 | piece16 =>
    refine piece (la := 8) (ha := 2104) m c t 2 4 256 1 (by omega) 1 1 (step 1 0 (pad (rows m c t 256 (by omega)))) (View.whole cc0_scratch1) (res1 _ _ _) words4 (by omega) (by omega)
      (fun r j hr => tree4 _ r j hr) ?_ ?_ rfl ?_ ?_ ?_ ?_ ?_ ?_ x _ ?_ ?_ ?_
    rotate_left
    iterate 7 omega
    iterate 3 (blk_simp [idx t]; try omega)
    refine level (la := 0) (ha := 2112) 8 1 0 48 (View.whole cc0_scratch0) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine base (rows m c t 256 (by omega)) _ _ _ ?_ (fun x => zero_at x) (fun x => zero_at x)
    intro x
    exact mid_of m c t 256 _ _ _ _ x
  case piece15 | piece14 | piece13 | piece12 | piece11 | piece10 | piece9 | piece8 =>
    refine piece (la := 16) (ha := 2096) m c t 4 8 512 2 (by omega) 2 2 (step 1 1 (step 1 0 (pad (rows m c t 512 (by omega))))) (View.whole cc0_scratch0) (res2 _ _ _) words8 (by omega) (by omega)
      (fun r j hr => tree8 _ r j hr) ?_ ?_ rfl ?_ ?_ ?_ ?_ ?_ ?_ x _ ?_ ?_ ?_
    rotate_left
    iterate 7 omega
    iterate 3 (blk_simp [idx t]; try omega)
    refine level (la := 8) (ha := 2104) 16 1 1 32 (View.whole cc0_scratch1) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine level (la := 0) (ha := 2112) 8 1 0 48 (View.whole cc0_scratch0) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine base (rows m c t 512 (by omega)) _ _ _ ?_ (fun x => zero_at x) (fun x => zero_at x)
    intro x
    exact mid_of m c t 512 _ _ _ _ x
  case piece7 | piece6 | piece5 | piece4 | piece3 | piece2 | piece1 | piece0 =>
    refine piece (la := 24) (ha := 2088) m c t 8 16 768 3 (by omega) 4 4 (step 2 2 (step 1 1 (step 1 0 (pad (rows m c t 768 (by omega)))))) (View.whole cc0_scratch1) (res3 _ _ _) words16 (by omega) (by omega)
      (fun r j hr => tree16 _ r j hr) ?_ ?_ rfl ?_ ?_ ?_ ?_ ?_ ?_ x _ ?_ ?_ ?_
    rotate_left
    iterate 7 omega
    iterate 3 (blk_simp [idx t]; try omega)
    refine level (la := 16) (ha := 2096) 24 2 2 16 (View.whole cc0_scratch0) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine level (la := 8) (ha := 2104) 16 1 1 32 (View.whole cc0_scratch1) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine level (la := 0) (ha := 2112) 8 1 0 48 (View.whole cc0_scratch0) ?_ (by omega) (by omega) (by omega)
      (fun x => add_at _ _ _ x) (fun x => add_at _ _ _ x) (fun x => add_at _ _ _ x) (fun x => add_at _ _ _ x) (fun x => add_at _ _ _ x)
      (fun x => add_at _ _ _ x) (fun x => add_at _ _ _ x) (fun x => add_at _ _ _ x) (fun x => add_at _ _ _ x)
    refine base (rows m c t 768 (by omega)) _ _ _ ?_ (fun x => zero_at x) (fun x => zero_at x)
    intro x
    exact mid_of m c t 768 _ _ _ _ x

/-- Kernel and reference compute the same array over the extended reals. -/
theorem algebraic : Cert.algebraic_PoolIdeal_PoolRefIdeal := by
  pair_intro
  · run_from Cert.PoolIdeal.Gen.run_main m g
  · run_from Cert.PoolRefIdeal.Value.run m' g'
    rw [final m c]
    exact Cert.PoolRefIdeal.Pooling.run_res (StableHlo.launchContents m' c) (z m c) (W m c) (S m c) (hagree c).1 (hagree c).2.1 (hagree c).2.2

end Cert.PoolIdeal.Pooling
-- ==== Proof.UpValue.lean ====
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The experts' gate and up projections: `silu(x·Wg) · (x·Wu)`, blocked, against the same of whole arrays -/

namespace Cert.UpRefIdeal.Experts

open Cert.UpRefIdeal Cert.UpRefIdeal.Gen

/-- The reference's result, as its operations compose it, from its arguments. -/
def REF (a0 : FVec Ideal S16x2048x2048 .bf16) (a1 a2 : FVec Ideal S1x16x2048x2048 .f32) : FVec Ideal S16x2048x2048 .bf16 :=
  truncf .bf16 (mulf (mulf (Host.dotGeneral (F := Ideal) (φ₁ := .f32) (φ₂ := .f32) dot_S16x2048x2048_S16x2048x2048_S16x2048x2048_2_1_1_2_0_0 none (extf .f32 a0 bitsLt_bf16_f32) (shapeCast _ a1 shapeCasts_S1x16x2048x2048_S16x2048x2048)) (Host.divf (broadcastInDim S16x2048x2048 ![] bcast_S_S16x2048x2048 (constant (F := Ideal) S_ .f32 0x3F800000#32)) (addf (broadcastInDim S16x2048x2048 ![] bcast_S_S16x2048x2048 (constant (F := Ideal) S_ .f32 0x3F800000#32)) (Host.exp (Host.negf (Host.dotGeneral (F := Ideal) (φ₁ := .f32) (φ₂ := .f32) dot_S16x2048x2048_S16x2048x2048_S16x2048x2048_2_1_1_2_0_0 none (extf .f32 a0 bitsLt_bf16_f32) (shapeCast _ a1 shapeCasts_S1x16x2048x2048_S16x2048x2048))))))) (Host.dotGeneral (F := Ideal) (φ₁ := .f32) (φ₂ := .f32) dot_S16x2048x2048_S16x2048x2048_S16x2048x2048_2_1_1_2_0_0 none (extf .f32 a0 bitsLt_bf16_f32) (shapeCast _ a2 shapeCasts_S1x16x2048x2048_S16x2048x2048))) bitsLt_bf16_f32

end Cert.UpRefIdeal.Experts

namespace Cert.UpIdeal.Experts

open Cert.UpIdeal Cert.UpIdeal.Gen

variable (m : (ℓ : Loc nD τ sig) → Buf (Elt Ideal) ℓ)

/-- `silu(x·Wg) · (x·Wu)` of expert `i 0`, token row `i 1`, hidden column `i 2`, from the three argument arrays. -/
def swiglu (X : FVec Ideal S16x2048x2048 .bf16) (G U : FVec Ideal S1x16x2048x2048 .f32) : FVec Ideal S16x2048x2048 .bf16 :=
  fun i =>
    let g : EReal := ∑ k : Fin 2048, X (ix3 (i 0) (i 1) k) * G (ix4 0 (i 0) k (i 2))
    let u : EReal := ∑ k : Fin 2048, X (ix3 (i 0) (i 1) k) * U (ix4 0 (i 0) k (i 2))
    g * Ideal.logistic g * u

/-- The reference's term is `swiglu`. -/
theorem ref_eq (a0 : FVec Ideal S16x2048x2048 .bf16) (a1 a2 : FVec Ideal S1x16x2048x2048 .f32) : Cert.UpRefIdeal.Experts.REF a0 a1 a2 = swiglu a0 a1 a2 := by
  funext i
  pointwise [Cert.UpRefIdeal.Experts.REF, swiglu, Ideal.logistic]

/-- The block of each window at grid point `t`: expert `t / 4`, the quarter `t % 4` of the hidden columns. -/
theorem idx : ∀ t : Fin cfg0.N, win0_0.index t = ![t.val / 4, 0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- After the run the result array holds `swiglu` of the arguments: each of a point's four row chunks is its part of it. -/
theorem final (c : Dev nD) : (dats m 0 c).arrAt 3 (cfgs 0).N
    = swiglu (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  canon_tiles x h
  all_goals
    pointwise [k0_pay1, k0_pay2, k0_pay3, k0_pay4, k0_pay5, k0_pay6, k0_pay7, k0_pay8, k0_pay9, swiglu]
    blk_point [iblk, V, idx t]

/-- Kernel and reference compute the same array over the extended reals. -/
theorem algebraic : Cert.algebraic_UpIdeal_UpRefIdeal := by
  pair_intro
  · run_from Cert.UpIdeal.Gen.run_main m g
  · run_from Cert.UpRefIdeal.Value.run m' g'
    rw [final m c]
    exact ref_eq _ _ _

end Cert.UpIdeal.Experts
-- ==== Proof.DownValue.lean ====
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The experts' down projection, scaled by the affinity: blocked, against the same of whole arrays -/

namespace Cert.DownRefIdeal.Experts

open Cert.DownRefIdeal Cert.DownRefIdeal.Gen

/-- The reference's result, as its operations compose it, from its arguments. -/
def REF (a0 : FVec Ideal S16x2048x2048 .bf16) (a1 : FVec Ideal S1x16x2048x2048 .f32) (a2 : FVec Ideal S16x2048x1 .f32) : FVec Ideal S16x2048x2048 .bf16 :=
  truncf .bf16 (mulf (Host.dotGeneral (F := Ideal) (φ₁ := .f32) (φ₂ := .f32) dot_S16x2048x2048_S16x2048x2048_S16x2048x2048_2_1_1_2_0_0 none (extf .f32 a0 bitsLt_bf16_f32) (shapeCast _ a1 shapeCasts_S1x16x2048x2048_S16x2048x2048)) (broadcastInDim S16x2048x2048 ![0, 1, 2] bcast_S16x2048x1_S16x2048x2048_0_1_2 a2)) bitsLt_bf16_f32

end Cert.DownRefIdeal.Experts

namespace Cert.DownIdeal.Experts

open Cert.DownIdeal Cert.DownIdeal.Gen

variable (m : (ℓ : Loc nD τ sig) → Buf (Elt Ideal) ℓ)

/-- `(h·Wd) · a` of expert `i 0`, token row `i 1`, output column `i 2`, from the three argument arrays. -/
def down (H : FVec Ideal S16x2048x2048 .bf16) (W : FVec Ideal S1x16x2048x2048 .f32) (A : FVec Ideal S16x2048x1 .f32) :
    FVec Ideal S16x2048x2048 .bf16 :=
  fun i => (show EReal from ∑ k : Fin 2048, H (ix3 (i 0) (i 1) k) * W (ix4 0 (i 0) k (i 2))) * A (ix3 (i 0) (i 1) 0)

/-- The reference's term is `down`. -/
theorem ref_eq (a0 : FVec Ideal S16x2048x2048 .bf16) (a1 : FVec Ideal S1x16x2048x2048 .f32) (a2 : FVec Ideal S16x2048x1 .f32) : Cert.DownRefIdeal.Experts.REF a0 a1 a2 = down a0 a1 a2 := by
  funext i
  pointwise [Cert.DownRefIdeal.Experts.REF, down]

/-- The block of each window at grid point `t`: expert `t / 2`, the half `t % 2` of the output columns. -/
theorem idx : ∀ t : Fin cfg0.N, win0_0.index t = ![t.val / 2, 0, 0] ∧ win0_1.index t = ![t.val / 2, 0, t.val % 2]
    ∧ win0_2.index t = ![t.val / 2, 0, 0] ∧ win0_3.index t = ![t.val / 2, 0, t.val % 2] :=
  (by decide +kernel : ∀ t : Fin grid0.N, _)

/-- After the run the result array holds `down` of the arguments. -/
theorem final (c : Dev nD) : (dats m 0 c).arrAt 3 (cfgs 0).N
    = down (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  canon_tiles x h
  all_goals
    pointwise [k0_pay1, k0_pay2, k0_pay3, k0_pay4, k0_pay5, k0_pay6, down]
    blk_point [iblk, V, idx t]

/-- Kernel and reference compute the same array over the extended reals. -/
theorem algebraic : Cert.algebraic_DownIdeal_DownRefIdeal := by
  pair_intro
  · run_from Cert.DownIdeal.Gen.run_main m g
  · run_from Cert.DownRefIdeal.Value.run m' g'
    rw [final m c]
    exact ref_eq _ _ _

end Cert.DownIdeal.Experts
-- ==== Proof.MergeValue.lean ====
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The gated merge of the three branches, blocked, against the same of whole arrays -/

namespace Cert.MergeRefIdeal.Branches

open Cert.MergeRefIdeal Cert.MergeRefIdeal.Gen

/-- The reference's result, as its operations compose it, from its arguments. -/
def REF (a0 : FVec Ideal S16384x1024 .bf16) (a1 a2 : FVec Ideal S16384x512 .bf16) (a3 : FVec Ideal S16384x2048 .bf16) (a4 : FVec Ideal S1x1024x2048 .f32) (a5 a6 : FVec Ideal S1x512x2048 .f32) (a7 : FVec Ideal S2048x6144 .bf16) : FVec Ideal S16384x2048 .bf16 :=
  truncf .bf16 (addf (addf (mulf (shapeCast _ (extractStridedSlice S16384x1x2048 ![0, 0, 0] (shapeCast _ (Host.divf (broadcastInDim S16384x6144 ![] bcast_S_S16384x6144 (constant (F := Ideal) S_ .f32 0x3F800000#32)) (addf (broadcastInDim S16384x6144 ![] bcast_S_S16384x6144 (constant (F := Ideal) S_ .f32 0x3F800000#32)) (Host.exp (Host.negf (Host.dotGeneral (F := Ideal) (φ₁ := .f32) (φ₂ := .f32) dot_S16384x2048_S2048x6144_S16384x6144_1_0_0_1_n_n none (extf .f32 a3 bitsLt_bf16_f32) (extf .f32 a7 bitsLt_bf16_f32)))))) shapeCasts_S16384x6144_S16384x3x2048) slices_S16384x3x2048_S16384x1x2048_0_0_0) shapeCasts_S16384x1x2048_S16384x2048) (Host.dotGeneral (F := Ideal) (φ₁ := .f32) (φ₂ := .f32) dot_S16384x1024_S1024x2048_S16384x2048_1_0_0_1_n_n none (extf .f32 a0 bitsLt_bf16_f32) (shapeCast _ a4 shapeCasts_S1x1024x2048_S1024x2048))) (mulf (shapeCast _ (extractStridedSlice S16384x1x2048 ![0, 1, 0] (shapeCast _ (Host.divf (broadcastInDim S16384x6144 ![] bcast_S_S16384x6144 (constant (F := Ideal) S_ .f32 0x3F800000#32)) (addf (broadcastInDim S16384x6144 ![] bcast_S_S16384x6144 (constant (F := Ideal) S_ .f32 0x3F800000#32)) (Host.exp (Host.negf (Host.dotGeneral (F := Ideal) (φ₁ := .f32) (φ₂ := .f32) dot_S16384x2048_S2048x6144_S16384x6144_1_0_0_1_n_n none (extf .f32 a3 bitsLt_bf16_f32) (extf .f32 a7 bitsLt_bf16_f32)))))) shapeCasts_S16384x6144_S16384x3x2048) slices_S16384x3x2048_S16384x1x2048_0_1_0) shapeCasts_S16384x1x2048_S16384x2048) (Host.dotGeneral (F := Ideal) (φ₁ := .f32) (φ₂ := .f32) dot_S16384x512_S512x2048_S16384x2048_1_0_0_1_n_n none (extf .f32 a1 bitsLt_bf16_f32) (shapeCast _ a5 shapeCasts_S1x512x2048_S512x2048)))) (mulf (shapeCast _ (extractStridedSlice S16384x1x2048 ![0, 2, 0] (shapeCast _ (Host.divf (broadcastInDim S16384x6144 ![] bcast_S_S16384x6144 (constant (F := Ideal) S_ .f32 0x3F800000#32)) (addf (broadcastInDim S16384x6144 ![] bcast_S_S16384x6144 (constant (F := Ideal) S_ .f32 0x3F800000#32)) (Host.exp (Host.negf (Host.dotGeneral (F := Ideal) (φ₁ := .f32) (φ₂ := .f32) dot_S16384x2048_S2048x6144_S16384x6144_1_0_0_1_n_n none (extf .f32 a3 bitsLt_bf16_f32) (extf .f32 a7 bitsLt_bf16_f32)))))) shapeCasts_S16384x6144_S16384x3x2048) slices_S16384x3x2048_S16384x1x2048_0_2_0) shapeCasts_S16384x1x2048_S16384x2048) (Host.dotGeneral (F := Ideal) (φ₁ := .f32) (φ₂ := .f32) dot_S16384x512_S512x2048_S16384x2048_1_0_0_1_n_n none (extf .f32 a2 bitsLt_bf16_f32) (shapeCast _ a6 shapeCasts_S1x512x2048_S512x2048)))) bitsLt_bf16_f32

end Cert.MergeRefIdeal.Branches

namespace Cert.MergeIdeal.Branches

open Cert.MergeIdeal Cert.MergeIdeal.Gen

variable (m : (ℓ : Loc nD τ sig) → Buf (Elt Ideal) ℓ)

/-- `σ(h·Wg₀)·(y₀·P₀) + σ(h·Wg₁)·(y₁·P₁) + σ(h·Wg₂)·(y₂·P₂)` of token `i 0`, output column `i 1`; the three
    gates' weights are the three thirds of the columns of `a7`. -/
def merge (a0 : FVec Ideal S16384x1024 .bf16) (a1 a2 : FVec Ideal S16384x512 .bf16) (a3 : FVec Ideal S16384x2048 .bf16) (a4 : FVec Ideal S1x1024x2048 .f32) (a5 a6 : FVec Ideal S1x512x2048 .f32) (a7 : FVec Ideal S2048x6144 .bf16) : FVec Ideal S16384x2048 .bf16 :=
  fun i =>
    let gate (b : Fin 3) : EReal := Ideal.logistic (∑ k : Fin 2048, a3 (ix2 (i 0) k) * a7 (ix2 k ⟨b * 2048 + (i 1 : ℕ), by have : (i 1 : ℕ) < 2048 := (i 1).isLt; omega⟩))
    let p0 : EReal := ∑ k : Fin 1024, a0 (ix2 (i 0) k) * a4 (ix3 0 k (i 1))
    let p1 : EReal := ∑ k : Fin 512, a1 (ix2 (i 0) k) * a5 (ix3 0 k (i 1))
    let p2 : EReal := ∑ k : Fin 512, a2 (ix2 (i 0) k) * a6 (ix3 0 k (i 1))
    gate 0 * p0 + gate 1 * p1 + gate 2 * p2

/-- The reference's term is `merge`. -/
theorem ref_eq (a0 : FVec Ideal S16384x1024 .bf16) (a1 a2 : FVec Ideal S16384x512 .bf16) (a3 : FVec Ideal S16384x2048 .bf16) (a4 : FVec Ideal S1x1024x2048 .f32) (a5 a6 : FVec Ideal S1x512x2048 .f32) (a7 : FVec Ideal S2048x6144 .bf16) :
    Cert.MergeRefIdeal.Branches.REF a0 a1 a2 a3 a4 a5 a6 a7 = merge a0 a1 a2 a3 a4 a5 a6 a7 := by
  funext i
  pointwise [Cert.MergeRefIdeal.Branches.REF, merge, Ideal.logistic]

/-- The block of each window at grid point `t`: column block `t / 16`, row block `t % 16`. -/
theorem idx : ∀ t : Fin cfg0.N, win0_0.index t = ![t.val % 16, 0] ∧ win0_1.index t = ![t.val % 16, 0]
    ∧ win0_2.index t = ![t.val % 16, 0] ∧ win0_3.index t = ![t.val % 16, 0] ∧ win0_4.index t = ![0, t.val / 16]
    ∧ win0_5.index t = ![0, t.val / 16] ∧ win0_6.index t = ![0, t.val / 16] ∧ win0_7.index t = ![0, t.val / 16]
    ∧ win0_8.index t = ![0, t.val / 16 + 4] ∧ win0_9.index t = ![0, t.val / 16 + 8] ∧ win0_10.index t = ![t.val % 16, t.val / 16] :=
  (by decide +kernel : ∀ t : Fin grid0.N, _)

/-- After point `n` the three carried scratches hold the point's blocks of the branches' projections: they are
    written at the first point of a column block and left alone at the others, where the blocks stay the same. -/
theorem carried (c : Dev nD) (n : ℕ) : ∀ (h : n < cfg0.N),
    (∀ j, (outsAt0 m c n h).2.1 j = (show FVec Ideal S1024x512 .f32 from iblk m c 4 ⟨n, h⟩) j)
    ∧ (∀ j, (outsAt0 m c n h).2.2.1 j = (show FVec Ideal S512x512 .f32 from iblk m c 5 ⟨n, h⟩) j)
    ∧ (∀ j, (outsAt0 m c n h).2.2.2 j = (show FVec Ideal S512x512 .f32 from iblk m c 6 ⟨n, h⟩) j) := by
  induction n with
  | zero =>
    intro h
    rw [outsAt0_A m c ⟨0, h⟩ (by rfl)]
    refine ⟨fun j => ?_, fun j => ?_, fun j => ?_⟩ <;> (frame_out; pointwise [k0_pay1, k0_pay2, k0_pay3, k0_pay4, k0_pay5])
  | succ n ih =>
    intro h
    by_cases h0 : (n + 1) % 16 = 0
    · rw [outsAt0_A m c ⟨n + 1, h⟩ h0]
      refine ⟨fun j => ?_, fun j => ?_, fun j => ?_⟩ <;> (frame_out; pointwise [k0_pay1, k0_pay2, k0_pay3, k0_pay4, k0_pay5])
    · rw [outsAt0_B m c ⟨n + 1, h⟩ h0]
      have ih := ih (by omega)
      refine ⟨fun j => Eq.trans ?_ ((ih.1 j).trans ?_), fun j => Eq.trans ?_ ((ih.2.1 j).trans ?_), fun j => Eq.trans ?_ ((ih.2.2 j).trans ?_)⟩
      all_goals first | (frame_out; done) | (blk_ext [iblk, V, idx ⟨n, by omega⟩, idx ⟨n + 1, h⟩]; done)

/-- After the run the result array holds `merge` of the arguments. -/
theorem final (c : Dev nD) : (dats m 0 c).arrAt 10 (cfgs 0).N
    = merge (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 10 _ (by decide +kernel) fun t _ y => ?_
  blk_simp
  rw [after0_10]
  by_cases hz : t.val % 16 = 0
  · rw [outsAt0_A m c t hz]
    frame_out
    canon_tiles x h
    all_goals
      pointwise [k0_pay1, k0_pay2, k0_pay3, k0_pay4, k0_pay5, merge]
      blk_point [iblk, V, idx t]
  · have hprev := lt_of_le_of_lt (Nat.sub_le t.val 1) t.isLt
    have hc := carried m c (t.val - 1) hprev
    rw [outsAt0_B m c t hz]
    frame_out
    canon_tiles x h
    all_goals
      pointwise [k0_pay1, k0_pay2, k0_pay3, k0_pay4, k0_pay5, merge]
      blk_point [iblk, V, idx t]
      · refine (congrFun ((Memref.isWhole_whole _).read_unread _) _).trans ((hc.1 _).trans ?_)
        dsimp only
        blk_point [iblk, V, idx t, idx ⟨t.val - 1, hprev⟩]
      · refine (congrFun ((Memref.isWhole_whole _).read_unread _) _).trans ((hc.2.1 _).trans ?_)
        dsimp only
        blk_point [iblk, V, idx t, idx ⟨t.val - 1, hprev⟩]
      · refine (congrFun ((Memref.isWhole_whole _).read_unread _) _).trans ((hc.2.2 _).trans ?_)
        dsimp only
        blk_point [iblk, V, idx t, idx ⟨t.val - 1, hprev⟩]

/-- Kernel and reference compute the same array over the extended reals. -/
theorem algebraic : Cert.algebraic_MergeIdeal_MergeRefIdeal := by
  pair_intro
  · run_from Cert.MergeIdeal.Gen.run_main m g
  · run_from Cert.MergeRefIdeal.Value.run m' g'
    rw [final m c]
    exact ref_eq _ _ _ _ _ _ _ _

end Cert.MergeIdeal.Branches
-- ==== Proof.OutPure.lean ====
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Claim
public import proofs.«01_k».proof.Proof.AttnPure

@[expose] public section

set_option maxRecDepth 16384

noncomputable section

open Idealize.ShloMosaic Idealize.ShloMosaic.TcCoe Idealize.SL.Sem
open Idealize.ShloMosaic.Pipeline (Dat)

/-! # The output call: the pure facts about its payloads and the reference's terms -/

namespace Cert.OutRefIdeal.Output

open Cert.OutRefIdeal Cert.OutRefIdeal.Gen
open Cert.AttnRefIdeal.Mixing (max_fold nrm proj)

/-- The reference's residual stream after the output projection. -/
def xs (a0 : FVec Ideal S16384x2048 .bf16) (a1 : FVec Ideal S1x2048x2048 .f32) (a2 : FVec Ideal S8x2048x2048 .f32) : FVec Ideal S8x2048x2048 .f32 :=
  addf a2 (shapeCast _ (Host.dotGeneral (F := Ideal) (φ₁ := .f32) (φ₂ := .f32) dot_S16384x2048_S2048x2048_S16384x2048_1_0_0_1_n_n none (extf .f32 a0 bitsLt_bf16_f32) (shapeCast _ a1 shapeCasts_S1x2048x2048_S2048x2048)) shapeCasts_S16384x2048_S8x2048x2048)

/-- The reference's norm of any residual stream. -/
def hn (X1 : FVec Ideal S8x2048x2048 .f32) (a3 : FVec Ideal S1x2048 .f32) : FVec Ideal S8x2048x2048 .f32 :=
  mulf (mulf X1 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X1 X1) (constant (F := Ideal) S_ .f32 0x00000000#32) reducesTo_S8x2048x2048_S8x2048_d2 h_S_)) (broadcastInDim S8x2048x1 ![] bcast_S_S8x2048x1 (constant (F := Ideal) S_ .f32 0x45000000#32))) (broadcastInDim S8x2048x1 ![] bcast_S_S8x2048x1 (constant (F := Ideal) S_ .f32 0x358637BD#32)))))) (broadcastInDim S8x2048x2048 ![0, 1, 2] bcast_S1x1x2048_S8x2048x2048_0_1_2 (broadcastInDim S1x1x2048 ![2] bcast_S2048_S1x1x2048_2 (shapeCast _ a3 shapeCasts_S1x2048_S2048)))

/-- The reference's router logits of any normalised stream. -/
def lg (H : FVec Ideal S8x2048x2048 .f32) (a4 : FVec Ideal S1x2048x16 .f32) : FVec Ideal S8x2048x16 .f32 :=
  Host.dotGeneral (F := Ideal) (φ₁ := .f32) (φ₂ := .f32) dot_S8x2048x2048_S2048x16_S8x2048x16_2_0_01_1_n_n none H (shapeCast _ a4 shapeCasts_S1x2048x16_S2048x16)

/-- The exponentials of any logits minus their row maximum. -/
def ex (L : FVec Ideal S8x2048x16 .f32) : FVec Ideal S8x2048x16 .f32 :=
  Host.exp (subf L (broadcastInDim S8x2048x16 ![0, 1, 2] bcast_S8x2048x1_S8x2048x16_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf L (constant (F := Ideal) S_ .f32 0xFF800000#32) reducesTo_S8x2048x16_S8x2048_d2 h_S_)))))

/-- Any exponentials over their row sum, experts first. -/
def affOf (E : FVec Ideal S8x2048x16 .f32) : FVec Ideal S8x16x2048 .f32 :=
  transpose S8x16x2048 [0, 2, 1] (Host.divf E (broadcastInDim S8x2048x16 ![0, 1, 2] bcast_S8x2048x1_S8x2048x16_0_1_2 (broadcastInDim S8x2048x1 ![0, 1] bcast_S8x2048_S8x2048x1_0_1 (Host.reduceAdd E (constant (F := Ideal) S_ .f32 0x00000000#32) reducesTo_S8x2048x16_S8x2048_d2 h_S_)))) transposes_S8x2048x16_S8x16x2048_0_2_1

/-- The reference's first result: the residual stream by tokens. -/
def REF0 (a0 : FVec Ideal S16384x2048 .bf16) (a1 : FVec Ideal S1x2048x2048 .f32) (a2 : FVec Ideal S8x2048x2048 .f32) : FVec Ideal S16384x2048 .f32 :=
  shapeCast _ (xs a0 a1 a2) shapeCasts_S8x2048x2048_S16384x2048

/-- The reference's second result: its norm by tokens. -/
def REF1 (a0 : FVec Ideal S16384x2048 .bf16) (a1 : FVec Ideal S1x2048x2048 .f32) (a2 : FVec Ideal S8x2048x2048 .f32) (a3 : FVec Ideal S1x2048 .f32) : FVec Ideal S16384x2048 .bf16 :=
  truncf .bf16 (shapeCast _ (hn (xs a0 a1 a2) a3) shapeCasts_S8x2048x2048_S16384x2048) bitsLt_bf16_f32

/-- The reference's third result: the affinities. -/
def REF2 (a0 : FVec Ideal S16384x2048 .bf16) (a1 : FVec Ideal S1x2048x2048 .f32) (a2 : FVec Ideal S8x2048x2048 .f32) (a3 : FVec Ideal S1x2048 .f32) (a4 : FVec Ideal S1x2048x16 .f32) : FVec Ideal S8x16x2048 .f32 :=
  affOf (ex (lg (hn (xs a0 a1 a2) a3) a4))

/-- One element of the residual stream: the residual plus a product of a row and a column. -/
def res (r : EReal) (a w : Fin 2048 → EReal) : EReal := r + ∑ k, a k * w k

/-- One expert's affinity: a softmax over the experts of a normalised row's logits. -/
def aff (x g : Fin 2048 → EReal) (w : Fin 2048 → Fin 16 → EReal) (e : Fin 16) : EReal :=
  let L (l : Fin 16) : EReal := proj x g fun k => w k l
  let p (l : Fin 16) : EReal := Ideal.exp (L l - Finset.univ.fold max (Ideal.ofBits .f32 0xFF800000#32) L)
  Ideal.div (p e) (∑ l, p l)

/-- Equal residuals, rows and columns give equal elements. -/
theorem res_congr {r r' : EReal} {a a' w w' : Fin 2048 → EReal} (hr : r = r') (ha : ∀ k, a k = a' k) (hw : ∀ k, w k = w' k) :
    res r a w = res r' a' w' := by
  rw [hr, funext ha, funext hw]

/-- Equal rows, gains and router columns give equal affinities. -/
theorem aff_congr {x x' g g' : Fin 2048 → EReal} {w w' : Fin 2048 → Fin 16 → EReal} {e e' : Fin 16} (hx : ∀ k, x k = x' k)
    (hg : ∀ k, g k = g' k) (hw : ∀ k l, w k l = w' k l) (he : e = e') : aff x g w e = aff x' g' w' e' := by
  rw [funext hx, funext hg, funext fun k => funext (hw k), he]

/-- The reference's residual stream. -/
theorem xs_eq (a0 : FVec Ideal S16384x2048 .bf16) (a1 : FVec Ideal S1x2048x2048 .f32) (a2 : FVec Ideal S8x2048x2048 .f32) (b : Fin 8) (s k : Fin 2048) : xs a0 a1 a2 (ix3 b s k)
    = res (a2 (ix3 b s k)) (fun l => a0 (ix2 ⟨b.val * 2048 + s.val, by omega⟩ l)) (fun l => a1 (ix3 0 l k)) := by
  pointwise [xs, res]

/-- The reference's norm. -/
theorem hn_eq (X1 : FVec Ideal S8x2048x2048 .f32) (a3 : FVec Ideal S1x2048 .f32) (b : Fin 8) (s k : Fin 2048) :
    hn X1 a3 (ix3 b s k) = nrm (fun k => X1 (ix3 b s k)) (fun k => a3 (ix2 0 k)) k := by
  pointwise [hn, nrm]

/-- The reference's logits. -/
theorem lg_eq (X1 : FVec Ideal S8x2048x2048 .f32) (a3 : FVec Ideal S1x2048 .f32) (a4 : FVec Ideal S1x2048x16 .f32) (b : Fin 8) (s : Fin 2048) (l : Fin 16) :
    lg (hn X1 a3) a4 (ix3 b s l) = proj (fun k => X1 (ix3 b s k)) (fun k => a3 (ix2 0 k)) fun k => a4 (ix3 0 k l) := by
  have h : lg (hn X1 a3) a4 (ix3 b s l) = ∑ k : Fin 2048, hn X1 a3 (ix3 b s k) * a4 (ix3 0 k l) := by pointwise [lg]
  rw [h]
  simp only [hn_eq, proj]

/-- The reference's maximum of a row of logits. -/
theorem rowMax_eq (L : FVec Ideal S8x2048x16 .f32) (b : Fin 8) (s : Fin 2048) :
    Host.reduce FloatOps.maximumf L (constant (F := Ideal) S_ .f32 0xFF800000#32) reducesTo_S8x2048x16_S8x2048_d2 h_S_ (ix2 b s)
      = Finset.univ.fold max (Ideal.ofBits .f32 0xFF800000#32) fun l => L (ix3 b s l) := by
  pointwise

/-- The larger of a row's maximum and the starting value. -/
theorem rowTop_eq (X : FVec Ideal S8x2048 .f32) (b : Fin 8) (s : Fin 2048) :
    maximumf (broadcastInDim S8x2048 ![] bcast_S_S8x2048 (constant (F := Ideal) S_ .f32 0xFF800000#32)) X (ix2 b s)
      = max (Ideal.ofBits .f32 0xFF800000#32) (X (ix2 b s)) := by
  pointwise

/-- An exponential of a logit minus a value of its row. -/
theorem exSub_eq (L : FVec Ideal S8x2048x16 .f32) (X : FVec Ideal S8x2048 .f32) (b : Fin 8) (s : Fin 2048) (l : Fin 16) :
    Host.exp (subf L (broadcastInDim S8x2048x16 ![0, 1, 2] bcast_S8x2048x1_S8x2048x16_0_1_2
        (broadcastInDim S8x2048x1 ![0, 1] bcast_S8x2048_S8x2048x1_0_1 X))) (ix3 b s l)
      = Ideal.exp (L (ix3 b s l) - X (ix2 b s)) := by
  pointwise

/-- The reference's exponential, in terms of its logits. -/
theorem ex_eq (L : FVec Ideal S8x2048x16 .f32) (b : Fin 8) (s : Fin 2048) (l : Fin 16) : ex L (ix3 b s l)
    = Ideal.exp (L (ix3 b s l) - Finset.univ.fold max (Ideal.ofBits .f32 0xFF800000#32) fun l => L (ix3 b s l)) := by
  unfold ex
  rw [exSub_eq, rowTop_eq, rowMax_eq, max_fold]

/-- The reference's affinity, from any exponentials. -/
theorem affOf_eq (E : FVec Ideal S8x2048x16 .f32) (i : S8x16x2048.Idx) : affOf E i
    = Ideal.div (E (ix3 (i 0) (i 2) (i 1))) (∑ l : Fin 16, E (ix3 (i 0) (i 2) l)) := by
  pointwise [affOf]

/-- The first result at token `s` of image `b`. -/
theorem ref0 (a0 : FVec Ideal S16384x2048 .bf16) (a1 : FVec Ideal S1x2048x2048 .f32) (a2 : FVec Ideal S8x2048x2048 .f32) (b : Fin 8) (s k : Fin 2048) (i : S16384x2048.Idx)
    (h0 : (i 0 : ℕ) = b.val * 2048 + s.val) (h1 : (i 1 : ℕ) = k.val) : REF0 a0 a1 a2 i = xs a0 a1 a2 (ix3 b s k) := by
  pointwise [REF0]
  have hb : (i 0 : ℕ) / 2048 = b.val := by omega
  have hs : (i 0 : ℕ) % 2048 = s.val := by omega
  simp only [hb, hs]
  exact congrArg (fun e => xs a0 a1 a2 (ix3 b s e)) (Fin.ext h1)

/-- The second result at token `s` of image `b`. -/
theorem ref1 (a0 : FVec Ideal S16384x2048 .bf16) (a1 : FVec Ideal S1x2048x2048 .f32) (a2 : FVec Ideal S8x2048x2048 .f32) (a3 : FVec Ideal S1x2048 .f32) (b : Fin 8) (s k : Fin 2048) (i : S16384x2048.Idx)
    (h0 : (i 0 : ℕ) = b.val * 2048 + s.val) (h1 : (i 1 : ℕ) = k.val) : REF1 a0 a1 a2 a3 i
    = nrm (fun k => xs a0 a1 a2 (ix3 b s k)) (fun k => a3 (ix2 0 k)) k := by
  rw [← hn_eq]
  pointwise [REF1]
  have hb : (i 0 : ℕ) / 2048 = b.val := by omega
  have hs : (i 0 : ℕ) % 2048 = s.val := by omega
  simp only [hb, hs]
  exact congrArg (fun e => hn (xs a0 a1 a2) a3 (ix3 b s e)) (Fin.ext h1)

/-- The third result, for an expert, at token `s` of image `b`. -/
theorem ref2 (a0 : FVec Ideal S16384x2048 .bf16) (a1 : FVec Ideal S1x2048x2048 .f32) (a2 : FVec Ideal S8x2048x2048 .f32) (a3 : FVec Ideal S1x2048 .f32) (a4 : FVec Ideal S1x2048x16 .f32) (b : Fin 8) (s : Fin 2048) (e : Fin 16) (i : S8x16x2048.Idx)
    (h0 : (i 0 : ℕ) = b.val) (h1 : (i 1 : ℕ) = e.val) (h2 : (i 2 : ℕ) = s.val) : REF2 a0 a1 a2 a3 a4 i
    = aff (fun k => xs a0 a1 a2 (ix3 b s k)) (fun k => a3 (ix2 0 k)) (fun k l => a4 (ix3 0 k l)) e := by
  have e0 : i 0 = b := Fin.ext h0
  have e1 : i 1 = e := Fin.ext h1
  have e2 : i 2 = s := Fin.ext h2
  unfold REF2 aff
  rw [affOf_eq, e0, e1, e2]
  simp only [ex_eq, lg_eq]

end Cert.OutRefIdeal.Output

namespace Cert.OutIdeal.Output

open Cert.OutIdeal Cert.OutIdeal.Gen
open Cert.AttnRefIdeal.Mixing (max_fold nrm proj)
open Cert.OutRefIdeal.Output (aff res)

/-- Sixteen logits on 128 lanes, the other lanes at −∞. -/
def lanes (L : Fin 16 → EReal) (l : Fin 128) : EReal := if h : l.val < 16 then L ⟨l.val, h⟩ else ⊥

/-- The starting value of the maxima is −∞. -/
theorem start_bot : Ideal.ofBits .f32 0xFF800000#32 = ⊥ := by
  simp [Ideal.ofBits, Ideal.ieee]

/-- The maximum over all lanes is the maximum over the experts. -/
theorem lanes_max (L : Fin 16 → EReal) :
    Finset.univ.fold max (Ideal.ofBits .f32 0xFF800000#32) (lanes L) = Finset.univ.fold max (Ideal.ofBits .f32 0xFF800000#32) L := by
  rw [start_bot]
  refine le_antisymm ((Finset.fold_max_le _).2 ⟨bot_le, fun l _ => ?_⟩) ((Finset.fold_max_le _).2 ⟨bot_le, fun l _ => ?_⟩)
  · unfold lanes
    split
    · exact (Finset.le_fold_max _).2 (Or.inr ⟨_, Finset.mem_univ _, le_rfl⟩)
    · exact bot_le
  · refine (Finset.le_fold_max _).2 (Or.inr ⟨⟨l.val, by omega⟩, Finset.mem_univ _, ?_⟩)
    simp [lanes]

/-- The lanes at −∞ add nothing to the sum of the exponentials. -/
theorem lanes_sum (L : Fin 16 → EReal) (b : EReal) :
    ∑ l, Ideal.exp (lanes L l - b) = ∑ l, Ideal.exp (L l - b) := by
  have h := Fin.sum_univ_add (a := 16) (b := 112) fun l => Ideal.exp (lanes L l - b)
  refine h.trans ?_
  have hz : ∀ j : Fin 112, Ideal.exp (lanes L (Fin.natAdd 16 j) - b) = 0 := by
    intro j
    have hj : lanes L (Fin.natAdd 16 j) = ⊥ := by simp [lanes]
    rw [hj, EReal.bot_sub]
    rfl
  have hl : ∀ j : Fin 16, lanes L (Fin.castAdd 112 j) = L j := by
    intro j
    simp [lanes]
  simp only [hz, hl, Finset.sum_const_zero, add_zero]

/-- The rows of chunk 0, normalised. -/
theorem rows0 (X : FVec Ideal S256x2048 .f32) (G : FVec Ideal S1x2048 .f32) (x : S256x2048.Idx) :
    k0_pay8 (F := Ideal) X G x = nrm (fun k => X (ix2 (x 0) k)) (fun k => G (ix2 0 k)) (x 1) := by
  pointwise [k0_pay8, nrm]

/-- The rows of chunk 1, normalised. -/
theorem rows1 (X : FVec Ideal S256x2048 .f32) (G : FVec Ideal S1x2048 .f32) (x : S256x2048.Idx) :
    k0_pay16 (F := Ideal) X G x = nrm (fun k => X (ix2 (x 0) k)) (fun k => G (ix2 0 k)) (x 1) := by
  pointwise [k0_pay16, nrm]

/-- The lane mask picks the experts' lanes. -/
theorem pick (l : Fin 128) (a b : EReal) :
    Scalar.select (IntOp.cmpi .slt (BitVec.ofNat 32 l.val) 16#32) a b = if l.val < 16 then a else b := by
  have h : ∀ l : Fin 128, IntOp.cmpi .slt (BitVec.ofNat 32 l.val) 16#32 = if l.val < 16 then 1#1 else 0#1 := by decide +kernel
  rw [h]
  split <;> rfl

/-- A softmax over 128 lanes. -/
def soft (T : Fin 128 → EReal) (l : Fin 128) : EReal :=
  Ideal.div (Ideal.exp (T l - Finset.univ.fold max (Ideal.ofBits .f32 0xFF800000#32) T))
    (∑ j, Ideal.exp (T j - Finset.univ.fold max (Ideal.ofBits .f32 0xFF800000#32) T))

/-- On an expert's lane the softmax over the lanes is the expert's affinity. -/
theorem soft_lanes (x g : Fin 2048 → EReal) (w : Fin 2048 → Fin 16 → EReal) (l : Fin 128) (e : Fin 16) (h : l.val = e.val) :
    soft (lanes fun l => proj x g fun k => w k l) l = aff x g w e := by
  unfold soft aff
  rw [lanes_max, lanes_sum]
  have hl : lanes (fun l => proj x g fun k => w k l) l = proj x g fun k => w k e := by
    simp [lanes, h]
  rw [hl]

/-- Chunk 0's residual stream in column quarter 0. -/
theorem piece00 (A : FVec Ideal S256x2048 .bf16) (R : FVec Ideal S256x512 .f32) (W : FVec Ideal S2048x512 .bf16) (x : S256x512.Idx) :
    k0_pay4 (F := Ideal) A R W x = res (R x) (fun k => A (ix2 (x 0) k)) (fun k => W (ix2 k (x 1))) := by
  pointwise [k0_pay4, res]

/-- Chunk 0's residual stream in column quarter 1. -/
theorem piece01 (A : FVec Ideal S256x2048 .bf16) (R : FVec Ideal S256x512 .f32) (W : FVec Ideal S2048x512 .bf16) (x : S256x512.Idx) :
    k0_pay5 (F := Ideal) A R W x = res (R x) (fun k => A (ix2 (x 0) k)) (fun k => W (ix2 k (x 1))) := by
  pointwise [k0_pay5, res]

/-- Chunk 0's residual stream in column quarter 2. -/
theorem piece02 (A : FVec Ideal S256x2048 .bf16) (R : FVec Ideal S256x512 .f32) (W : FVec Ideal S2048x512 .bf16) (x : S256x512.Idx) :
    k0_pay6 (F := Ideal) A R W x = res (R x) (fun k => A (ix2 (x 0) k)) (fun k => W (ix2 k (x 1))) := by
  pointwise [k0_pay6, res]

/-- Chunk 0's residual stream in column quarter 3. -/
theorem piece03 (A : FVec Ideal S256x2048 .bf16) (R : FVec Ideal S256x512 .f32) (W : FVec Ideal S2048x512 .bf16) (x : S256x512.Idx) :
    k0_pay7 (F := Ideal) A R W x = res (R x) (fun k => A (ix2 (x 0) k)) (fun k => W (ix2 k (x 1))) := by
  pointwise [k0_pay7, res]

/-- Chunk 1's residual stream in column quarter 0. -/
theorem piece10 (A : FVec Ideal S256x2048 .bf16) (R : FVec Ideal S256x512 .f32) (W : FVec Ideal S2048x512 .bf16) (x : S256x512.Idx) :
    k0_pay11 (F := Ideal) A R W x = res (R x) (fun k => A (ix2 (x 0) k)) (fun k => W (ix2 k (x 1))) := by
  pointwise [k0_pay11, res]

/-- Chunk 1's residual stream in column quarter 1. -/
theorem piece11 (A : FVec Ideal S256x2048 .bf16) (R : FVec Ideal S256x512 .f32) (W : FVec Ideal S2048x512 .bf16) (x : S256x512.Idx) :
    k0_pay12 (F := Ideal) A R W x = res (R x) (fun k => A (ix2 (x 0) k)) (fun k => W (ix2 k (x 1))) := by
  pointwise [k0_pay12, res]

/-- Chunk 1's residual stream in column quarter 2. -/
theorem piece12 (A : FVec Ideal S256x2048 .bf16) (R : FVec Ideal S256x512 .f32) (W : FVec Ideal S2048x512 .bf16) (x : S256x512.Idx) :
    k0_pay13 (F := Ideal) A R W x = res (R x) (fun k => A (ix2 (x 0) k)) (fun k => W (ix2 k (x 1))) := by
  pointwise [k0_pay13, res]

/-- Chunk 1's residual stream in column quarter 3. -/
theorem piece13 (A : FVec Ideal S256x2048 .bf16) (R : FVec Ideal S256x512 .f32) (W : FVec Ideal S2048x512 .bf16) (x : S256x512.Idx) :
    k0_pay15 (F := Ideal) A (k0_pay14 R) W x = res (R x) (fun k => A (ix2 (x 0) k)) (fun k => W (ix2 k (x 1))) := by
  pointwise [k0_pay14, k0_pay15, res]

/-- Chunk 0's affinities are the softmax over the masked lanes. -/
theorem soft0 (W : FVec Ideal S2048x128 .bf16) (X : FVec Ideal S256x2048 .f32) (G : FVec Ideal S1x2048 .f32) (x : S1x16x256.Idx) :
    k0_pay10 (k0_pay9 W X G) x = soft (fun l => Scalar.select (IntOp.cmpi .slt (BitVec.ofNat 32 l.val) 16#32)
      (∑ k : Fin 2048, k0_pay8 (F := Ideal) X G (ix2 (x 2) k) * W (ix2 k l))
      (Named.named (F := Ideal) κ "mask" (φ := .f32) 0xF149F2CA#32)) ⟨(x 1 : ℕ), by have := (x 1).isLt; simp at this; omega⟩ := by
  pointwise [k0_pay9, k0_pay10, soft]

/-- Chunk 0's affinities. -/
theorem aff0 (W : FVec Ideal S2048x128 .bf16) (X : FVec Ideal S256x2048 .f32) (G : FVec Ideal S1x2048 .f32) (x : S1x16x256.Idx) :
    k0_pay10 (k0_pay9 W X G) x = aff (fun k => X (ix2 (x 2) k)) (fun k => G (ix2 0 k)) (fun k l => W (ix2 k ⟨l.val, by omega⟩)) (x 1) := by
  rw [soft0, ← soft_lanes _ _ _ ⟨(x 1 : ℕ), by have := (x 1).isLt; simp at this; omega⟩ (x 1) rfl]
  refine congrFun (congrArg soft (funext fun l => ?_)) _
  rw [IdealRules.named_const.ideal_named_scalar κ "mask" _ ⊥ rfl]
  rw [pick]
  unfold lanes
  split
  · simp only [rows0, proj]
    rfl
  · rfl

/-- Chunk 1's affinities are the softmax over the masked lanes. -/
theorem soft1 (W : FVec Ideal S2048x128 .bf16) (X : FVec Ideal S256x2048 .f32) (G : FVec Ideal S1x2048 .f32) (x : S1x16x256.Idx) :
    k0_pay1 (k0_pay17 W X G) x = soft (fun l => Scalar.select (IntOp.cmpi .slt (BitVec.ofNat 32 l.val) 16#32)
      (∑ k : Fin 2048, k0_pay16 (F := Ideal) X G (ix2 (x 2) k) * W (ix2 k l))
      (Named.named (F := Ideal) κ "mask" (φ := .f32) 0xF149F2CA#32)) ⟨(x 1 : ℕ), by have := (x 1).isLt; simp at this; omega⟩ := by
  pointwise [k0_pay17, k0_pay1, soft]

/-- Chunk 1's affinities. -/
theorem aff1 (W : FVec Ideal S2048x128 .bf16) (X : FVec Ideal S256x2048 .f32) (G : FVec Ideal S1x2048 .f32) (x : S1x16x256.Idx) :
    k0_pay1 (k0_pay17 W X G) x = aff (fun k => X (ix2 (x 2) k)) (fun k => G (ix2 0 k)) (fun k l => W (ix2 k ⟨l.val, by omega⟩)) (x 1) := by
  rw [soft1, ← soft_lanes _ _ _ ⟨(x 1 : ℕ), by have := (x 1).isLt; simp at this; omega⟩ (x 1) rfl]
  refine congrFun (congrArg soft (funext fun l => ?_)) _
  rw [IdealRules.named_const.ideal_named_scalar κ "mask" _ ⊥ rfl]
  rw [pick]
  unfold lanes
  split
  · simp only [rows1, proj]
    rfl
  · rfl

/-- The cast of the router's weights keeps them. -/
theorem router_eq (W : FVec Ideal S2048x128 .f32) (x : S2048x128.Idx) : k0_pay3 (F := Ideal) W x = W x := by
  pointwise [k0_pay3]

end Cert.OutIdeal.Output
-- ==== Proof.OutValue.lean ====
module

public import proofs.«01_k».proof.Defs
public import proofs.«01_k».proof.Proof.Gen.OutIdeal.Value
public import proofs.«01_k».proof.Proof.Gen.OutRefIdeal.Run
public import Idealize.ShloMosaic.Lib.Pipeline.ReadBack
public import Idealize.ShloMosaic.Lib.Pipeline.ValueKit
public import Idealize.ShloMosaic.Lib.Pointwise
public import Idealize.ShloMosaic.Lib.Claim
public import proofs.«01_k».proof.Proof.OutPure

@[expose] public section

set_option maxRecDepth 16384

noncomputable section

open Idealize.ShloMosaic Idealize.ShloMosaic.TcCoe Idealize.SL.Sem
open Idealize.ShloMosaic.Pipeline (Dat)

/-! # The output call: what its result arrays hold after the run -/

namespace Cert.OutIdeal.Output

open Cert.OutIdeal Cert.OutIdeal.Gen
open Cert.AttnRefIdeal.Mixing (nrm proj nrm_congr)
open Cert.OutRefIdeal.Output

variable (m : (ℓ : Loc nD τ sig) → Buf (Elt Ideal) ℓ)

/-- The block of each window at grid point `t`: row block `t`; for the affinities, block `t % 4` of batch row `t / 4`. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val / 4, 0, t.val % 4] :=
  (by decide +kernel : ∀ t : Fin grid0.N, _)

set_option maxHeartbeats 1600000 in
/-- After point `n` the carried scratch holds the output weights: they are written at the first point and left alone at
    the others. -/
theorem carried (c : Dev nD) (n : ℕ) : ∀ (h : n < cfg0.N), ∀ j, (outsAt0 m c n h).2.2.2 j
    = (show FVec Ideal S2048x2048 .f32 from iblk m c 1 ⟨n, h⟩) j := by
  induction n with
  | zero =>
    intro h j
    rw [outsAt0_A m c ⟨0, h⟩ (by rfl)]
    frame_out
    pointwise [k0_pay2]
  | succ n ih =>
    intro h j
    by_cases h0 : (n + 1) % 32 = 0
    · rw [outsAt0_A m c ⟨n + 1, h⟩ h0]
      frame_out
      pointwise [k0_pay2]
    · rw [outsAt0_B m c ⟨n + 1, h⟩ h0]
      refine Eq.trans ?_ ((ih (by omega) j).trans ?_)
      all_goals first | (frame_out; done) | (blk_ext [iblk, V, idx ⟨n, by omega⟩, idx ⟨n + 1, h⟩]; done)

/-- A reshaped array at an index. -/
theorem at0 (a : FVec Ideal S1x2048x2048 .f32) (k e : Fin 2048) : (shapeCast S2048x2048 a shapeCasts_S1x2048x2048_S2048x2048 : FVec Ideal S2048x2048 .f32) (ix2 k e) = a (ix3 0 k e) := by
  pointwise

/-- The weights the call reads. -/
theorem V0 (c : Dev nD) (k e : Fin 2048) : (V m c main_v0 : FVec Ideal S2048x2048 .f32) (ix2 k e) = (m ((c : Thread nD τ).loc main_arg1)) (ix3 0 k e) := by
  simp only [V, hostOps0, hostOps0_1, hostOps0_2, List.flatten_cons, List.flatten_nil, List.cons_append, List.nil_append]
  entry_read
  exact at0 (m ((c : Thread nD τ).loc main_arg1)) k e

/-- A reshaped array at an index. -/
theorem at1 (a : FVec Ideal S8x2048x2048 .f32) (r : Fin 16384) (k : Fin 2048) (b : Fin 8) (s : Fin 2048) (h : r.val = b.val * 2048 + s.val) : (shapeCast S16384x2048 a shapeCasts_S8x2048x2048_S16384x2048 : FVec Ideal S16384x2048 .f32) (ix2 r k) = a (ix3 b s k) := by
  pointwise
  blk_ext

/-- The residual the call reads. -/
theorem V1 (c : Dev nD) (r : Fin 16384) (k : Fin 2048) (b : Fin 8) (s : Fin 2048) (h : r.val = b.val * 2048 + s.val) : (V m c main_v1 : FVec Ideal S16384x2048 .f32) (ix2 r k) = (m ((c : Thread nD τ).loc main_arg2)) (ix3 b s k) := by
  simp only [V, hostOps0, hostOps0_1, hostOps0_2, List.flatten_cons, List.flatten_nil, List.cons_append, List.nil_append]
  entry_read
  exact at1 (m ((c : Thread nD τ).loc main_arg2)) r k b s h

/-- A reshaped array at an index. -/
theorem at5 (a : FVec Ideal S1x2048 .f32) (k : Fin 2048) : (shapeCast S1x2048 (shapeCast S2048 a shapeCasts_S1x2048_S2048) shapeCasts_S2048_S1x2048 : FVec Ideal S1x2048 .f32) (ix2 0 k) = a (ix2 0 k) := by
  pointwise

/-- The gain the call reads. -/
theorem V5 (c : Dev nD) (k : Fin 2048) : (V m c main_v5 : FVec Ideal S1x2048 .f32) (ix2 0 k) = (m ((c : Thread nD τ).loc main_arg3)) (ix2 0 k) := by
  simp only [V, hostOps0, hostOps0_1, hostOps0_2, List.flatten_cons, List.flatten_nil, List.cons_append, List.nil_append]
  entry_read
  exact at5 (m ((c : Thread nD τ).loc main_arg3)) k

/-- A reshaped array at an index. -/
theorem at4 (a : FVec Ideal S1x2048x16 .f32) (k : Fin 2048) (l : Fin 128) (e : Fin 16) (h : l.val = e.val) : (pad S2048x128 ![0, 0] ![0, 112] ![0, 0]
    (shapeCast S2048x16 a shapeCasts_S1x2048x16_S2048x16) (sitofp .f32 (constantI S_ 32 0#32) : FVec Ideal S_ .f32)
    pads_S2048x16_S2048x128_000_01120 h_S_ : FVec Ideal S2048x128 .f32) (ix2 k l) = a (ix3 0 k e) := by
  pointwise
  rw [dif_pos (by omega)]
  exact congrArg (fun i => a (ix3 0 k i)) (Fin.ext h)

/-- The router's columns the call reads, on the experts' lanes. -/
theorem V4 (c : Dev nD) (k : Fin 2048) (l : Fin 128) (e : Fin 16) (h : l.val = e.val) : (V m c main_v4 : FVec Ideal S2048x128 .f32) (ix2 k l) = (m ((c : Thread nD τ).loc main_arg4)) (ix3 0 k e) := by
  simp only [V, hostOps0, hostOps0_1, hostOps0_2, List.flatten_cons, List.flatten_nil, List.cons_append, List.nil_append]
  entry_read
  exact at4 (m ((c : Thread nD τ).loc main_arg4)) k l e h

/-- A block of the merged branches, as the array's own rows. -/
theorem rows_of (c : Dev nD) (t : Fin cfg0.N) (r : Fin 512) (k : Fin 2048) (s : Fin 16384) (hs : s.val = t.val * 512 + r.val) :
    (iblk m c 0 t : FVec Ideal S512x2048 .bf16) (ix2 r k) = (m ((c : Thread nD τ).loc main_arg0)) (ix2 s k) := by
  have ht : t.val < 32 := t.isLt
  blk_point [iblk, V, idx t]

/-- The weights' block is the weights. -/
theorem weight_of (c : Dev nD) (t : Fin cfg0.N) (k e e' : Fin 2048) (he : e.val = e'.val) :
    (iblk m c 1 t : FVec Ideal S2048x2048 .f32) (ix2 k e) = (m ((c : Thread nD τ).loc main_arg1)) (ix3 0 k e') := by
  refine Eq.trans (b := (V m c main_v0 : FVec Ideal S2048x2048 .f32) (ix2 k e')) ?_ (V0 m c k e')
  blk_ext [iblk, idx t]

/-- A block of the residual, as the array's own rows. -/
theorem resid_of (c : Dev nD) (t : Fin cfg0.N) (r : Fin 512) (k k' : Fin 2048) (b : Fin 8) (s : Fin 2048)
    (hb : b.val = t.val / 4) (hs : s.val = t.val % 4 * 512 + r.val) (hk : k.val = k'.val) :
    (iblk m c 2 t : FVec Ideal S512x2048 .f32) (ix2 r k) = (m ((c : Thread nD τ).loc main_arg2)) (ix3 b s k') := by
  have ht : t.val < 32 := t.isLt
  refine Eq.trans (b := (V m c main_v1 : FVec Ideal S16384x2048 .f32) (ix2 ⟨b.val * 2048 + s.val, by omega⟩ k')) ?_ (V1 m c _ _ _ _ rfl)
  blk_ext [iblk, idx t]

/-- The gain's block is the gain. -/
theorem gain_of (c : Dev nD) (t : Fin cfg0.N) (k : Fin 2048) :
    (iblk m c 3 t : FVec Ideal S1x2048 .f32) (ix2 0 k) = (m ((c : Thread nD τ).loc main_arg3)) (ix2 0 k) := by
  refine Eq.trans (b := (V m c main_v5 : FVec Ideal S1x2048 .f32) (ix2 0 k)) ?_ (V5 m c k)
  blk_ext [iblk, idx t]

/-- On an expert's lane the router's block is the router's weights. -/
theorem router_of (c : Dev nD) (t : Fin cfg0.N) (k : Fin 2048) (l : Fin 128) (e : Fin 16) (he : l.val = e.val) :
    (iblk m c 4 t : FVec Ideal S2048x128 .f32) (ix2 k l) = (m ((c : Thread nD τ).loc main_arg4)) (ix3 0 k e) := by
  refine Eq.trans (b := (V m c main_v4 : FVec Ideal S2048x128 .f32) (ix2 k l)) ?_ (V4 m c k l e he)
  blk_ext [iblk, idx t]

/-- The residual stream's rows of grid point `t`. -/
noncomputable def X1 (c : Dev nD) (t : Fin cfg0.N) : FVec Ideal S512x2048 .f32 := fun y =>
  xs (m ((c : Thread nD τ).loc main_arg0)) (m ((c : Thread nD τ).loc main_arg1)) (m ((c : Thread nD τ).loc main_arg2)) (ix3 ⟨t.val / 4, by have : t.val < 32 := t.isLt; omega⟩
    ⟨t.val % 4 * 512 + (y 0 : ℕ), by have : (y 0 : ℕ) < 512 := (y 0).isLt; omega⟩ (y 1))

/-- The columns of the output weights from `q` on. -/
noncomputable def wq (c : Dev nD) (q : ℕ) (hq : q + 512 ≤ 2048) (k : Fin 2048) (j : Fin 512) : EReal :=
  (m ((c : Thread nD τ).loc main_arg1)) (ix3 0 k ⟨q + j.val, by omega⟩)

/-- A piece of 256 rows and 512 columns at `(o, q)` that adds the projection to the residual is that piece of the
    residual stream. -/
theorem tile (c : Dev nD) (t : Fin cfg0.N) (o q : ℕ) (ho : o + 256 ≤ 512) (hq : q + 512 ≤ 2048) (hA hR)
    {W : FVec Ideal S2048x512 .bf16} (hW : ∀ k j, W (ix2 k j) = wq m c q hq k j) (P : FVec Ideal S256x512 .f32)
    (hP : ∀ x, P x = res ((View.ld (iblk m c 2 t) (Rect.unit ![o, q] ![256, 512] hR) : FVec Ideal S256x512 .f32) x)
      (fun k => (View.ld (iblk m c 0 t) (Rect.unit ![o, 0] ![256, 2048] hA) : FVec Ideal S256x2048 .bf16) (ix2 (x 0) k))
      (fun k => W (ix2 k (x 1)))) (y : S512x2048.Idx) :
    View.TileAt (Val := Elt Ideal) (e := .f32) y ![o, q] ![256, 512] P (X1 m c t y) := by
  intro x hx
  have ht : t.val < 32 := t.isLt
  have h0 : (y 0 : ℕ) = o + (x 0 : ℕ) := hx 0
  have h1 : (y 1 : ℕ) = q + (x 1 : ℕ) := hx 1
  have x0 : (x 0 : ℕ) < 256 := (x 0).isLt
  have x1 : (x 1 : ℕ) < 512 := (x 1).isLt
  rw [hP x]
  unfold X1
  refine Eq.trans ?_ (xs_eq _ _ _ _ _ _).symm
  refine res_congr ?_ (fun k => ?_) (fun k => ?_)
  · refine (View.ld_unit_apply_of _ _ _ hR x (ix2 ⟨o + (x 0 : ℕ), by omega⟩ ⟨q + (x 1 : ℕ), by omega⟩) (fun a => by fin_cases a <;> rfl)).trans ?_
    exact resid_of m c t _ _ _ _ _ rfl (by dsimp only; omega) (by dsimp only; omega)
  · refine (View.ld_unit_apply_of _ _ _ hA (ix2 (x 0) k) (ix2 ⟨o + (x 0 : ℕ), by omega⟩ k) (fun a => by fin_cases a <;> simp)).trans ?_
    exact rows_of m c t _ _ _ (by dsimp only; omega)
  · refine (hW k _).trans ?_
    unfold wq
    exact congrArg (fun e => (m ((c : Thread nD τ).loc main_arg1)) (ix3 0 k e)) (Fin.ext (by dsimp only; omega))

/-- A row of the block is the array's row. -/
theorem X1_row (c : Dev nD) (t : Fin cfg0.N) (y : S512x2048.Idx) (k : Fin 2048) (r : ℕ) (hr) (h0 : (y 0 : ℕ) = r) (h1 : (y 1 : ℕ) = k.val) :
    X1 m c t y = xs (m ((c : Thread nD τ).loc main_arg0)) (m ((c : Thread nD τ).loc main_arg1)) (m ((c : Thread nD τ).loc main_arg2)) (ix3 ⟨t.val / 4, by have : t.val < 32 := t.isLt; omega⟩ ⟨t.val % 4 * 512 + r, hr⟩ k) := by
  subst h0
  have e : y 1 = k := Fin.ext h1
  unfold X1
  rw [e]

/-- What the body stores for its first 256 rows, the last store first. -/
noncomputable def left (c : Dev nD) (t : Fin cfg0.N) (W0 W1 W2 W3 : FVec Ideal S2048x512 .bf16) : List (View.Piece (Elt Ideal) S512x2048 .f32) :=
  [⟨Rect.unit ![0, 1536] ![256, 512] inb_S512x2048_S256x512_0_1536,
        k0_pay7 (F := Ideal) (View.ld (iblk m c 0 t) (Rect.unit ![0, 0] ![256, 2048] inb_S512x2048_S256x2048_0_0))
          (View.ld (iblk m c 2 t) (Rect.unit ![0, 1536] ![256, 512] inb_S512x2048_S256x512_0_1536)) W3⟩,
      ⟨Rect.unit ![0, 1024] ![256, 512] inb_S512x2048_S256x512_0_1024,
        k0_pay6 (F := Ideal) (View.ld (iblk m c 0 t) (Rect.unit ![0, 0] ![256, 2048] inb_S512x2048_S256x2048_0_0))
          (View.ld (iblk m c 2 t) (Rect.unit ![0, 1024] ![256, 512] inb_S512x2048_S256x512_0_1024)) W2⟩,
      ⟨Rect.unit ![0, 512] ![256, 512] inb_S512x2048_S256x512_0_512,
        k0_pay5 (F := Ideal) (View.ld (iblk m c 0 t) (Rect.unit ![0, 0] ![256, 2048] inb_S512x2048_S256x2048_0_0))
          (View.ld (iblk m c 2 t) (Rect.unit ![0, 512] ![256, 512] inb_S512x2048_S256x512_0_512)) W1⟩,
      ⟨Rect.unit ![0, 0] ![256, 512] inb_S512x2048_S256x512_0_0,
        k0_pay4 (F := Ideal) (View.ld (iblk m c 0 t) (Rect.unit ![0, 0] ![256, 2048] inb_S512x2048_S256x2048_0_0))
          (View.ld (iblk m c 2 t) (Rect.unit ![0, 0] ![256, 512] inb_S512x2048_S256x512_0_0)) W0⟩]

/-- What the body stores for all its rows, the last store first. -/
noncomputable def full (c : Dev nD) (t : Fin cfg0.N) (V0 V1 V2 V3 W0 W1 W2 W3 : FVec Ideal S2048x512 .bf16) : List (View.Piece (Elt Ideal) S512x2048 .f32) :=
  ⟨Rect.unit ![256, 1536] ![256, 512] inb_S512x2048_S256x512_256_1536,
        k0_pay15 (F := Ideal) (View.ld (iblk m c 0 t) (Rect.unit ![256, 0] ![256, 2048] inb_S512x2048_S256x2048_256_0))
          (k0_pay14 (View.ld (iblk m c 2 t) (Rect.unit ![256, 1536] ![256, 512] inb_S512x2048_S256x512_256_1536))) V3⟩ ::
      ⟨Rect.unit ![256, 1024] ![256, 512] inb_S512x2048_S256x512_256_1024,
        k0_pay13 (F := Ideal) (View.ld (iblk m c 0 t) (Rect.unit ![256, 0] ![256, 2048] inb_S512x2048_S256x2048_256_0))
          (View.ld (iblk m c 2 t) (Rect.unit ![256, 1024] ![256, 512] inb_S512x2048_S256x512_256_1024)) V2⟩ ::
      ⟨Rect.unit ![256, 512] ![256, 512] inb_S512x2048_S256x512_256_512,
        k0_pay12 (F := Ideal) (View.ld (iblk m c 0 t) (Rect.unit ![256, 0] ![256, 2048] inb_S512x2048_S256x2048_256_0))
          (View.ld (iblk m c 2 t) (Rect.unit ![256, 512] ![256, 512] inb_S512x2048_S256x512_256_512)) V1⟩ ::
      ⟨Rect.unit ![256, 0] ![256, 512] inb_S512x2048_S256x512_256_0,
        k0_pay11 (F := Ideal) (View.ld (iblk m c 0 t) (Rect.unit ![256, 0] ![256, 2048] inb_S512x2048_S256x2048_256_0))
          (View.ld (iblk m c 2 t) (Rect.unit ![256, 0] ![256, 512] inb_S512x2048_S256x512_256_0)) V0⟩ ::
      left m c t W0 W1 W2 W3

/-- The first four pieces hold the residual stream. -/
theorem left_at (c : Dev nD) (t : Fin cfg0.N) {W0 W1 W2 W3 : FVec Ideal S2048x512 .bf16}
    (hW0 : ∀ k j, W0 (ix2 k j) = wq m c 0 (by omega) k j)
    (hW1 : ∀ k j, W1 (ix2 k j) = wq m c 512 (by omega) k j)
    (hW2 : ∀ k j, W2 (ix2 k j) = wq m c 1024 (by omega) k j)
    (hW3 : ∀ k j, W3 (ix2 k j) = wq m c 1536 (by omega) k j) (y : S512x2048.Idx) :
    View.AllAt (left m c t W0 W1 W2 W3) y (X1 m c t y) := by
  unfold left
  refine View.allAt_cons_unit _ _ _ _ _ (tile m c t 0 1536 (by omega) (by omega) _ _ hW3 _ (fun x => piece03 _ _ _ x) y) ?_
  refine View.allAt_cons_unit _ _ _ _ _ (tile m c t 0 1024 (by omega) (by omega) _ _ hW2 _ (fun x => piece02 _ _ _ x) y) ?_
  refine View.allAt_cons_unit _ _ _ _ _ (tile m c t 0 512 (by omega) (by omega) _ _ hW1 _ (fun x => piece01 _ _ _ x) y) ?_
  refine View.allAt_cons_unit _ _ _ _ _ (tile m c t 0 0 (by omega) (by omega) _ _ hW0 _ (fun x => piece00 _ _ _ x) y) ?_
  exact View.allAt_nil _ _

/-- The eight pieces hold the residual stream. -/
theorem full_at (c : Dev nD) (t : Fin cfg0.N) {V0 V1 V2 V3 : FVec Ideal S2048x512 .bf16} {W0 W1 W2 W3 : FVec Ideal S2048x512 .bf16}
    (hV0 : ∀ k j, V0 (ix2 k j) = wq m c 0 (by omega) k j)
    (hV1 : ∀ k j, V1 (ix2 k j) = wq m c 512 (by omega) k j)
    (hV2 : ∀ k j, V2 (ix2 k j) = wq m c 1024 (by omega) k j)
    (hV3 : ∀ k j, V3 (ix2 k j) = wq m c 1536 (by omega) k j)
    (hW0 : ∀ k j, W0 (ix2 k j) = wq m c 0 (by omega) k j)
    (hW1 : ∀ k j, W1 (ix2 k j) = wq m c 512 (by omega) k j)
    (hW2 : ∀ k j, W2 (ix2 k j) = wq m c 1024 (by omega) k j)
    (hW3 : ∀ k j, W3 (ix2 k j) = wq m c 1536 (by omega) k j) (y : S512x2048.Idx) :
    View.AllAt (full m c t V0 V1 V2 V3 W0 W1 W2 W3) y (X1 m c t y) := by
  unfold full
  refine View.allAt_cons_unit _ _ _ _ _ (tile m c t 256 1536 (by omega) (by omega) _ _ hV3 _ (fun x => piece13 _ _ _ x) y) ?_
  refine View.allAt_cons_unit _ _ _ _ _ (tile m c t 256 1024 (by omega) (by omega) _ _ hV2 _ (fun x => piece12 _ _ _ x) y) ?_
  refine View.allAt_cons_unit _ _ _ _ _ (tile m c t 256 512 (by omega) (by omega) _ _ hV1 _ (fun x => piece11 _ _ _ x) y) ?_
  refine View.allAt_cons_unit _ _ _ _ _ (tile m c t 256 0 (by omega) (by omega) _ _ hV0 _ (fun x => piece10 _ _ _ x) y) ?_
  exact left_at m c t hW0 hW1 hW2 hW3 y

/-- The eight pieces are the block. -/
theorem full_canon (c : Dev nD) (t : Fin cfg0.N) {V0 V1 V2 V3 : FVec Ideal S2048x512 .bf16} {W0 W1 W2 W3 : FVec Ideal S2048x512 .bf16}
    (hV0 : ∀ k j, V0 (ix2 k j) = wq m c 0 (by omega) k j)
    (hV1 : ∀ k j, V1 (ix2 k j) = wq m c 512 (by omega) k j)
    (hV2 : ∀ k j, V2 (ix2 k j) = wq m c 1024 (by omega) k j)
    (hV3 : ∀ k j, V3 (ix2 k j) = wq m c 1536 (by omega) k j)
    (hW0 : ∀ k j, W0 (ix2 k j) = wq m c 0 (by omega) k j)
    (hW1 : ∀ k j, W1 (ix2 k j) = wq m c 512 (by omega) k j)
    (hW2 : ∀ k j, W2 (ix2 k j) = wq m c 1024 (by omega) k j)
    (hW3 : ∀ k j, W3 (ix2 k j) = wq m c 1536 (by omega) k j) (y : S512x2048.Idx) :
    View.canon (full m c t V0 V1 V2 V3 W0 W1 W2 W3) y = X1 m c t y := by
  refine View.canon_eq_of_allAt _ _ _ ?_ (full_at m c t hV0 hV1 hV2 hV3 hW0 hW1 hW2 hW3 y)
  unfold full left
  exact View.cover_of_tiled_head _ _ _ (by rfl) _

/-- The first four pieces are the block's first 256 rows. -/
theorem left_canon (c : Dev nD) (t : Fin cfg0.N) {W0 W1 W2 W3 : FVec Ideal S2048x512 .bf16}
    (hW0 : ∀ k j, W0 (ix2 k j) = wq m c 0 (by omega) k j)
    (hW1 : ∀ k j, W1 (ix2 k j) = wq m c 512 (by omega) k j)
    (hW2 : ∀ k j, W2 (ix2 k j) = wq m c 1024 (by omega) k j)
    (hW3 : ∀ k j, W3 (ix2 k j) = wq m c 1536 (by omega) k j) (y : S512x2048.Idx) (hy : (y 0 : ℕ) < 256) :
    View.canon (left m c t W0 W1 W2 W3) y = X1 m c t y := by
  refine View.canon_eq_of_allAt _ _ _ ?_ (left_at m c t hW0 hW1 hW2 hW3 y)
  have h1 : (y 1 : ℕ) < 2048 := (y 1).isLt
  have at' (q : ℕ) (inb) (h : q ≤ (y 1 : ℕ)) (h' : (y 1 : ℕ) < q + 512) :
      y ∈ (Rect.unit (s := S512x2048) ![0, q] ![256, 512] inb).set :=
    Rect.mem_set_unit.mpr fun a => by
      fin_cases a
      · exact ⟨Nat.zero_le _, by simpa using hy⟩
      · exact ⟨h, h'⟩
  unfold left
  rcases (by omega : (1536 ≤ (y 1 : ℕ)) ∨ (1024 ≤ (y 1 : ℕ) ∧ (y 1 : ℕ) < 1536) ∨ (512 ≤ (y 1 : ℕ) ∧ (y 1 : ℕ) < 1024) ∨ (y 1 : ℕ) < 512)
    with h | h | h | h
  · exact ⟨_, .head _, at' 1536 inb_S512x2048_S256x512_0_1536 h (by omega)⟩
  · exact ⟨_, .tail _ (.head _), at' 1024 inb_S512x2048_S256x512_0_1024 h.1 (by omega)⟩
  · exact ⟨_, .tail _ (.tail _ (.head _)), at' 512 inb_S512x2048_S256x512_0_512 h.1 (by omega)⟩
  · exact ⟨_, .tail _ (.tail _ (.tail _ (.head _))), at' 0 inb_S512x2048_S256x512_0_0 (by omega) (by omega)⟩

/-- The columns read from a scratch that holds the weights. -/
theorem cols_of (c : Dev nD) (S : FVec Ideal S2048x2048 .bf16) (hS : ∀ k e, S (ix2 k e) = (m ((c : Thread nD τ).loc main_arg1)) (ix3 0 k e))
    (q : ℕ) (hq : q + 512 ≤ 2048) (inb) (k : Fin 2048) (j : Fin 512) :
    (View.ld (Val := Elt Ideal) (S := S2048x2048) (e' := .bf16) S (Rect.unit ![0, q] ![2048, 512] inb) : FVec Ideal S2048x512 .bf16) (ix2 k j) = wq m c q hq k j := by
  refine (View.ld_unit_apply_of _ _ _ inb (ix2 k j) (ix2 k ⟨q + j.val, by omega⟩) (fun a => by fin_cases a <;> simp)).trans ?_
  exact hS _ _

/-- At the first grid point the scratch holds the weights just stored. -/
theorem fresh (c : Dev nD) (t : Fin cfg0.N) (k e : Fin 2048) :
    (k0_pay2 (F := Ideal) (iblk m c 1 t) : FVec Ideal S2048x2048 .bf16) (ix2 k e) = (m ((c : Thread nD τ).loc main_arg1)) (ix3 0 k e) := by
  pointwise [k0_pay2]
  exact weight_of m c t _ _ _ rfl

set_option maxHeartbeats 1600000 in
/-- What result 0 holds after the run. -/
theorem final5 (c : Dev nD) : (dats m 0 c).arrAt 5 (cfgs 0).N = REF0 (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 32 := t.isLt
  blk_simp
  rw [after0_5]
  by_cases hz : t.val % 32 = 0
  · rw [outsAt0_A m c t hz]
    frame_out
    refine (full_canon m c t ?_ ?_ ?_ ?_ ?_ ?_ ?_ ?_ y).trans ?_
    rotate_left 8
    · unfold X1
      refine (ref0 _ _ _ _ _ _ _ ?_ ?_).symm <;> (blk_simp [idx t]; try (dsimp only; omega))
    all_goals exact fun k j => (congrFun (View.readCov_fill (View.whole cc0_scratch0) _ _ [] _ (by decide)) _).trans (cols_of m c _ (fresh m c t) _ _ _ k j)
  · rw [outsAt0_B m c t hz]
    frame_out
    have hprev := lt_of_le_of_lt (Nat.sub_le t.val 1) t.isLt
    have hS : ∀ k e, (View.read (Elt Ideal) (View.whole cc0_scratch0) ((Memref.isWhole_whole cc0_scratch0).unread
        (outsAt0 m c (t.val - 1) hprev).2.2.2) : FVec Ideal S2048x2048 .bf16) (ix2 k e) = (m ((c : Thread nD τ).loc main_arg1)) (ix3 0 k e) := fun k e =>
      (congrFun ((Memref.isWhole_whole _).read_unread _) _).trans ((carried m c _ hprev _).trans (weight_of m c _ _ _ _ rfl))
    refine (full_canon m c t ?_ ?_ ?_ ?_ ?_ ?_ ?_ ?_ y).trans ?_
    rotate_left 8
    · unfold X1
      refine (ref0 _ _ _ _ _ _ _ ?_ ?_).symm <;> (blk_simp [idx t]; try (dsimp only; omega))
    all_goals exact fun k j => cols_of m c _ hS _ _ _ k j

set_option maxHeartbeats 1600000 in
/-- What result 1 holds after the run. -/
theorem final6 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have ht : t.val < 32 := t.isLt
  blk_simp
  rw [after0_6]
  by_cases hz : t.val % 32 = 0
  · rw [outsAt0_A m c t hz]
    frame_out
    canon_tiles x h
    case piece0 =>
      have hx0 : (x 0 : ℕ) < 256 := x0_lt
      rw [rows1]
      refine (nrm_congr (fun k => ?_) (fun k => ?_) rfl).trans
        (ref1 _ _ _ _ ⟨t.val / 4, by omega⟩ ⟨t.val % 4 * 512 + (256 + (x 0 : ℕ)), by omega⟩ (x 1) _ ?_ ?_).symm
      · refine (congrFun (View.readCov_eq_canon' _ _ _) _).trans ?_
        refine (full_canon m c t ?_ ?_ ?_ ?_ ?_ ?_ ?_ ?_ _).trans ?_
        rotate_left 8
        · exact X1_row m c t _ _ _ _ (by show 256 + 1 * (x 0 : ℕ) = 256 + (x 0 : ℕ); omega) (by show 0 + 1 * (k : ℕ) = k; omega)
        all_goals exact fun k j => (congrFun (View.readCov_fill (View.whole cc0_scratch0) _ _ [] _ (by decide)) _).trans (cols_of m c _ (fresh m c t) _ _ _ k j)
      · exact gain_of m c t _
      · blk_simp [idx t]
        dsimp only
        omega
      · blk_simp [idx t]
        omega
    case piece1 =>
      have hx0 : (x 0 : ℕ) < 256 := x0_lt
      rw [rows0]
      refine (nrm_congr (fun k => ?_) (fun k => ?_) rfl).trans
        (ref1 _ _ _ _ ⟨t.val / 4, by omega⟩ ⟨t.val % 4 * 512 + (0 + (x 0 : ℕ)), by omega⟩ (x 1) _ ?_ ?_).symm
      · refine (congrFun (View.readCov_eq_canon' _ _ _) _).trans ?_
        refine (left_canon m c t ?_ ?_ ?_ ?_ _ ?_).trans ?_
        rotate_left 4
        · show 0 + 1 * (x 0 : ℕ) < 256; omega
        · exact X1_row m c t _ _ _ _ (by show 0 + 1 * (x 0 : ℕ) = 0 + (x 0 : ℕ); omega) (by show 0 + 1 * (k : ℕ) = k; omega)
        all_goals exact fun k j => (congrFun (View.readCov_fill (View.whole cc0_scratch0) _ _ [] _ (by decide)) _).trans (cols_of m c _ (fresh m c t) _ _ _ k j)
      · exact gain_of m c t _
      · blk_simp [idx t]
        dsimp only
        omega
      · blk_simp [idx t]
        omega
  · rw [outsAt0_B m c t hz]
    frame_out
    have hprev := lt_of_le_of_lt (Nat.sub_le t.val 1) t.isLt
    have hS : ∀ k e, (View.read (Elt Ideal) (View.whole cc0_scratch0) ((Memref.isWhole_whole cc0_scratch0).unread
        (outsAt0 m c (t.val - 1) hprev).2.2.2) : FVec Ideal S2048x2048 .bf16) (ix2 k e) = (m ((c : Thread nD τ).loc main_arg1)) (ix3 0 k e) := fun k e =>
      (congrFun ((Memref.isWhole_whole _).read_unread _) _).trans ((carried m c _ hprev _).trans (weight_of m c _ _ _ _ rfl))
    canon_tiles x h
    case piece0 =>
      have hx0 : (x 0 : ℕ) < 256 := x0_lt
      rw [rows1]
      refine (nrm_congr (fun k => ?_) (fun k => ?_) rfl).trans
        (ref1 _ _ _ _ ⟨t.val / 4, by omega⟩ ⟨t.val % 4 * 512 + (256 + (x 0 : ℕ)), by omega⟩ (x 1) _ ?_ ?_).symm
      · refine (congrFun (View.readCov_eq_canon' _ _ _) _).trans ?_
        refine (full_canon m c t ?_ ?_ ?_ ?_ ?_ ?_ ?_ ?_ _).trans ?_
        rotate_left 8
        · exact X1_row m c t _ _ _ _ (by show 256 + 1 * (x 0 : ℕ) = 256 + (x 0 : ℕ); omega) (by show 0 + 1 * (k : ℕ) = k; omega)
        all_goals exact fun k j => cols_of m c _ hS _ _ _ k j
      · exact gain_of m c t _
      · blk_simp [idx t]
        dsimp only
        omega
      · blk_simp [idx t]
        omega
    case piece1 =>
      have hx0 : (x 0 : ℕ) < 256 := x0_lt
      rw [rows0]
      refine (nrm_congr (fun k => ?_) (fun k => ?_) rfl).trans
        (ref1 _ _ _ _ ⟨t.val / 4, by omega⟩ ⟨t.val % 4 * 512 + (0 + (x 0 : ℕ)), by omega⟩ (x 1) _ ?_ ?_).symm
      · refine (congrFun (View.readCov_eq_canon' _ _ _) _).trans ?_
        refine (left_canon m c t ?_ ?_ ?_ ?_ _ ?_).trans ?_
        rotate_left 4
        · show 0 + 1 * (x 0 : ℕ) < 256; omega
        · exact X1_row m c t _ _ _ _ (by show 0 + 1 * (x 0 : ℕ) = 0 + (x 0 : ℕ); omega) (by show 0 + 1 * (k : ℕ) = k; omega)
        all_goals exact fun k j => cols_of m c _ hS _ _ _ k j
      · exact gain_of m c t _
      · blk_simp [idx t]
        dsimp only
        omega
      · blk_simp [idx t]
        omega

set_option maxHeartbeats 1600000 in
/-- What result 2 holds after the run. -/
theorem final7 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  have ht : t.val < 32 := t.isLt
  blk_simp
  rw [after0_7]
  by_cases hz : t.val % 32 = 0
  · rw [outsAt0_A m c t hz]
    frame_out
    canon_tiles x h
    case piece0 =>
      have hx1 : (x 1 : ℕ) < 16 := x1_lt
      have hx2 : (x 2 : ℕ) < 256 := x2_lt
      rw [aff1]
      refine (aff_congr (fun k => ?_) (fun k => ?_) (fun k l => ?_) rfl).trans
        (ref2 _ _ _ _ _ ⟨t.val / 4, by omega⟩ ⟨t.val % 4 * 512 + (256 + (x 2 : ℕ)), by omega⟩ (x 1) _ ?_ ?_ ?_).symm
      · refine (congrFun (View.readCov_eq_canon' _ _ _) _).trans ?_
        refine (full_canon m c t ?_ ?_ ?_ ?_ ?_ ?_ ?_ ?_ _).trans ?_
        rotate_left 8
        · exact X1_row m c t _ _ _ _ (by show 256 + 1 * (x 2 : ℕ) = 256 + (x 2 : ℕ); omega) (by show 0 + 1 * (k : ℕ) = k; omega)
        all_goals exact fun k j => (congrFun (View.readCov_fill (View.whole cc0_scratch0) _ _ [] _ (by decide)) _).trans (cols_of m c _ (fresh m c t) _ _ _ k j)
      · exact gain_of m c t _
      · exact (router_eq _ _).trans (router_of m c t _ _ _ rfl)
      all_goals (blk_simp [idx t]; try (dsimp only; omega))
    case piece1 =>
      have hx1 : (x 1 : ℕ) < 16 := x1_lt
      have hx2 : (x 2 : ℕ) < 256 := x2_lt
      rw [aff0]
      refine (aff_congr (fun k => ?_) (fun k => ?_) (fun k l => ?_) rfl).trans
        (ref2 _ _ _ _ _ ⟨t.val / 4, by omega⟩ ⟨t.val % 4 * 512 + (0 + (x 2 : ℕ)), by omega⟩ (x 1) _ ?_ ?_ ?_).symm
      · refine (congrFun (View.readCov_eq_canon' _ _ _) _).trans ?_
        refine (left_canon m c t ?_ ?_ ?_ ?_ _ ?_).trans ?_
        rotate_left 4
        · show 0 + 1 * (x 2 : ℕ) < 256; omega
        · exact X1_row m c t _ _ _ _ (by show 0 + 1 * (x 2 : ℕ) = 0 + (x 2 : ℕ); omega) (by show 0 + 1 * (k : ℕ) = k; omega)
        all_goals exact fun k j => (congrFun (View.readCov_fill (View.whole cc0_scratch0) _ _ [] _ (by decide)) _).trans (cols_of m c _ (fresh m c t) _ _ _ k j)
      · exact gain_of m c t _
      · exact (router_eq _ _).trans (router_of m c t _ _ _ rfl)
      all_goals (blk_simp [idx t]; try (dsimp only; omega))
  · rw [outsAt0_B m c t hz]
    frame_out
    have hprev := lt_of_le_of_lt (Nat.sub_le t.val 1) t.isLt
    have hS : ∀ k e, (View.read (Elt Ideal) (View.whole cc0_scratch0) ((Memref.isWhole_whole cc0_scratch0).unread
        (outsAt0 m c (t.val - 1) hprev).2.2.2) : FVec Ideal S2048x2048 .bf16) (ix2 k e) = (m ((c : Thread nD τ).loc main_arg1)) (ix3 0 k e) := fun k e =>
      (congrFun ((Memref.isWhole_whole _).read_unread _) _).trans ((carried m c _ hprev _).trans (weight_of m c _ _ _ _ rfl))
    canon_tiles x h
    case piece0 =>
      have hx1 : (x 1 : ℕ) < 16 := x1_lt
      have hx2 : (x 2 : ℕ) < 256 := x2_lt
      rw [aff1]
      refine (aff_congr (fun k => ?_) (fun k => ?_) (fun k l => ?_) rfl).trans
        (ref2 _ _ _ _ _ ⟨t.val / 4, by omega⟩ ⟨t.val % 4 * 512 + (256 + (x 2 : ℕ)), by omega⟩ (x 1) _ ?_ ?_ ?_).symm
      · refine (congrFun (View.readCov_eq_canon' _ _ _) _).trans ?_
        refine (full_canon m c t ?_ ?_ ?_ ?_ ?_ ?_ ?_ ?_ _).trans ?_
        rotate_left 8
        · exact X1_row m c t _ _ _ _ (by show 256 + 1 * (x 2 : ℕ) = 256 + (x 2 : ℕ); omega) (by show 0 + 1 * (k : ℕ) = k; omega)
        all_goals exact fun k j => cols_of m c _ hS _ _ _ k j
      · exact gain_of m c t _
      · exact (router_eq _ _).trans (router_of m c t _ _ _ rfl)
      all_goals (blk_simp [idx t]; try (dsimp only; omega))
    case piece1 =>
      have hx1 : (x 1 : ℕ) < 16 := x1_lt
      have hx2 : (x 2 : ℕ) < 256 := x2_lt
      rw [aff0]
      refine (aff_congr (fun k => ?_) (fun k => ?_) (fun k l => ?_) rfl).trans
        (ref2 _ _ _ _ _ ⟨t.val / 4, by omega⟩ ⟨t.val % 4 * 512 + (0 + (x 2 : ℕ)), by omega⟩ (x 1) _ ?_ ?_ ?_).symm
      · refine (congrFun (View.readCov_eq_canon' _ _ _) _).trans ?_
        refine (left_canon m c t ?_ ?_ ?_ ?_ _ ?_).trans ?_
        rotate_left 4
        · show 0 + 1 * (x 2 : ℕ) < 256; omega
        · exact X1_row m c t _ _ _ _ (by show 0 + 1 * (x 2 : ℕ) = 0 + (x 2 : ℕ); omega) (by show 0 + 1 * (k : ℕ) = k; omega)
        all_goals exact fun k j => cols_of m c _ hS _ _ _ k j
      · exact gain_of m c t _
      · exact (router_eq _ _).trans (router_of m c t _ _ _ rfl)
      all_goals (blk_simp [idx t]; try (dsimp only; omega))

/-- Kernel and reference compute the same three arrays over the extended reals. -/
theorem algebraic : Cert.algebraic_OutIdeal_OutRefIdeal := by
  pair_intro
  · run_from Cert.OutIdeal.Gen.run_main m g
    all_goals
      simp only [hostOps0, hostOps0_1, hostOps0_2, List.flatten_cons, List.flatten_nil, List.cons_append, List.nil_append]
      entry_read
      rfl
  · run_from Cert.OutRefIdeal.Value.run m' g'
    · exact (final5 m c).symm
    · exact (final6 m c).symm
    · rw [final7 m c]
      obtain ⟨e0, e1, e2, e3, e4⟩ := hagree c
      unfold Cert.OutRefIdeal.Value.res_main_v35
      rw [e0, e1, e2, e3, e4]
      rfl

end Cert.OutIdeal.Output
-- ==== Proof.lean ====
module

public import proofs.«01_k».proof.Defs
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolIdeal.Value
public import proofs.«01_k».proof.Proof.Gen.PoolRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.AttnIdeal.Value
public import proofs.«01_k».proof.Proof.Gen.AttnRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Gen.MergeIdeal.Value
public import proofs.«01_k».proof.Proof.Gen.MergeRefIdeal.Run
public import proofs.«01_k».proof.Proof.Gen.OutIdeal.Value
public import proofs.«01_k».proof.Proof.Gen.OutRefIdeal.Run
public import proofs.«01_k».proof.Proof.KvValue
public import proofs.«01_k».proof.Proof.AttnValue
public import proofs.«01_k».proof.Proof.PoolValue
public import proofs.«01_k».proof.Proof.UpValue
public import proofs.«01_k».proof.Proof.DownValue
public import proofs.«01_k».proof.Proof.MergeValue
public import proofs.«01_k».proof.Proof.OutValue

@[expose] public section

namespace Cert.Proof

open Idealize.ShloMosaic Idealize.SL.Sem

/-- The reference of the Kv call runs from every memory, leaves its arguments and no counter. -/
theorem frameKvRef : Cert.quiescent_KvRefIdeal := fun m ρ _ =>
  (θ_run Cert.KvRefIdeal.defs _ _).mono
    (fun r h => ⟨fun c => (h c).2, sem_eq_zero_of_no_sems (by decide) r.2⟩)
    (Cert.KvRefIdeal.Value.run (F := Ideal) m ρ)

/-- The reference of the Attn call runs from every memory, leaves its arguments and no counter. -/
theorem frameAttnRef : Cert.quiescent_AttnRefIdeal := fun m ρ _ =>
  (θ_run Cert.AttnRefIdeal.defs _ _).mono
    (fun r h => ⟨fun c => (h c).2.2.2.2.2, sem_eq_zero_of_no_sems (by decide) r.2⟩)
    (Cert.AttnRefIdeal.Value.run (F := Ideal) m ρ)

/-- The reference of the Pool call runs from every memory, leaves its arguments and no counter. -/
theorem framePoolRef : Cert.quiescent_PoolRefIdeal := fun m ρ _ =>
  (θ_run Cert.PoolRefIdeal.defs _ _).mono
    (fun r h => ⟨fun c => (h c).2, sem_eq_zero_of_no_sems (by decide) r.2⟩)
    (Cert.PoolRefIdeal.Value.run (F := Ideal) m ρ)

/-- The reference of the Up call runs from every memory, leaves its arguments and no counter. -/
theorem frameUpRef : Cert.quiescent_UpRefIdeal := fun m ρ _ =>
  (θ_run Cert.UpRefIdeal.defs _ _).mono
    (fun r h => ⟨fun c => (h c).2, sem_eq_zero_of_no_sems (by decide) r.2⟩)
    (Cert.UpRefIdeal.Value.run (F := Ideal) m ρ)

/-- The reference of the Down call runs from every memory, leaves its arguments and no counter. -/
theorem frameDownRef : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

/-- The reference of the Merge call runs from every memory, leaves its arguments and no counter. -/
theorem frameMergeRef : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The reference of the Out call runs from every memory, leaves its arguments and no counter. -/
theorem frameOutRef : Cert.quiescent_OutRefIdeal := fun m ρ _ =>
  (θ_run Cert.OutRefIdeal.defs _ _).mono
    (fun r h => ⟨fun c => (h c).2.2.2, sem_eq_zero_of_no_sems (by decide) r.2⟩)
    (Cert.OutRefIdeal.Value.run (F := Ideal) m ρ)

/-- The name `"mask"` stands for −∞, and the router's masking constant is that value over the reals. -/
theorem preservesOut : Cert.preserves_Out_OutIdeal :=
  IdealRules.named_const.statement Cert.OutIdeal.κ "mask" .f32 0xF149F2CA#32 ⊥ rfl

/-- The name `"inv_sqrt_d"` stands for the inverse root of 128, and the scale of the attention is that value over the reals. -/
theorem preservesAttn : Cert.preserves_Attn_AttnIdeal :=
  IdealRules.named_const.statement Cert.AttnIdeal.κ "inv_sqrt_d" .f32 0x3DB504F3#32 (((Real.sqrt 128)⁻¹ : ℝ) : EReal) rfl

theorem claim : Cert.Claim :=
  ⟨Cert.Kv.Gen.facts, Cert.KvIdeal.Gen.facts, Cert.KvRefIdeal.Gen.facts,
    Cert.Attn.Gen.facts, Cert.AttnIdeal.Gen.facts, Cert.AttnRefIdeal.Gen.facts,
    Cert.Pool.Gen.facts, Cert.PoolIdeal.Gen.facts, Cert.PoolRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    fun m ρ _ => Cert.Kv.Gen.frame m ρ, fun m ρ _ => Cert.KvIdeal.Gen.frame m ρ, frameKvRef,
    fun m ρ _ => Cert.Attn.Gen.frame m ρ, fun m ρ _ => Cert.AttnIdeal.Gen.frame m ρ, frameAttnRef,
    fun m ρ _ => Cert.Pool.Gen.frame m ρ, fun m ρ _ => Cert.PoolIdeal.Gen.frame m ρ, framePoolRef,
    fun m ρ _ => Cert.Up.Gen.frame m ρ, fun m ρ _ => Cert.UpIdeal.Gen.frame m ρ, frameUpRef,
    fun m ρ _ => Cert.Down.Gen.frame m ρ, fun m ρ _ => Cert.DownIdeal.Gen.frame m ρ, frameDownRef,
    fun m ρ _ => Cert.Merge.Gen.frame m ρ, fun m ρ _ => Cert.MergeIdeal.Gen.frame m ρ, frameMergeRef,
    fun m ρ _ => Cert.Out.Gen.frame m ρ, fun m ρ _ => Cert.OutIdeal.Gen.frame m ρ, frameOutRef,
    trivial, Cert.KvIdeal.Memory.algebraic,
    preservesAttn, Cert.AttnIdeal.Mixing.algebraic,
    trivial, Cert.PoolIdeal.Pooling.algebraic,
    trivial, Cert.UpIdeal.Experts.algebraic,
    trivial, Cert.DownIdeal.Experts.algebraic,
    trivial, Cert.MergeIdeal.Branches.algebraic,
    preservesOut, Cert.OutIdeal.Output.algebraic⟩

end Cert.Proof

end
